-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![4096, 256]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![4096, 256]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S1x256 : Shape := ⟨2, ![1, 256]⟩
abbrev S16x1x256 : Shape := ⟨3, ![16, 1, 256]⟩
abbrev S_ : Shape := ⟨0, ![]⟩
abbrev S1x1x256 : Shape := ⟨3, ![1, 1, 256]⟩

abbrev nBuf : Space → Nat
  | .hbm => 2
  | .vmem => 4
  | .smem => 0
  | _ => 0

abbrev bufTy : (tb : Table) → Fin (tcTables nBuf tb) → BufTy
  | .hbm, ⟨0, _⟩ => ⟨S256x256, .bf16⟩
  | .hbm, ⟨1, _⟩ => ⟨S256x256, .f32⟩
  | .local _ .vmem, ⟨0, _⟩ => ⟨S256x256, .bf16⟩
  | .local _ .vmem, ⟨1, _⟩ => ⟨S256x256, .f32⟩
  | .local _ .vmem, ⟨2, _⟩ => ⟨S1x256, .f32⟩
  | .local _ .vmem, ⟨3, _⟩ => ⟨S16x1x256, .f32⟩
  | _, _ => ⟨S256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_232 : BitVec 32 := 0#32
  let c0_i32_230 : BitVec 32 := 0#32
  let c1_i32_231 : BitVec 32 := 1#32
  let v216 : BitVec 32 := Scalar.muli c0_i32_230 c1_i32_231
  let v217 : BitVec 32 := Scalar.addi c0_i32_232 v216
  v217.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_232 : BitVec 32 := 0#32
  let c1_i32_230 : BitVec 32 := 1#32
  let c1_i32_231 : BitVec 32 := 1#32
  let v216 : BitVec 32 := Scalar.muli c1_i32_230 c1_i32_231
  let v217 : BitVec 32 := Scalar.addi c0_i32_232 v216
  v217.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_232 : BitVec 32 := 0#32
  let c2_i32_230 : BitVec 32 := 2#32
  let c1_i32_231 : BitVec 32 := 1#32
  let v216 : BitVec 32 := Scalar.muli c2_i32_230 c1_i32_231
  let v217 : BitVec 32 := Scalar.addi c0_i32_232 v216
  v217.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_232 : BitVec 32 := 0#32
  let c3_i32_230 : BitVec 32 := 3#32
  let c1_i32_231 : BitVec 32 := 1#32
  let v216 : BitVec 32 := Scalar.muli c3_i32_230 c1_i32_231
  let v217 : BitVec 32 := Scalar.addi c0_i32_232 v216
  v217.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_232 : BitVec 32 := 0#32
  let c4_i32_230 : BitVec 32 := 4#32
  let c1_i32_231 : BitVec 32 := 1#32
  let v216 : BitVec 32 := Scalar.muli c4_i32_230 c1_i32_231
  let v217 : BitVec 32 := Scalar.addi c0_i32_232 v216
  v217.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_232 : BitVec 32 := 0#32
  let c5_i32_230 : BitVec 32 := 5#32
  let c1_i32_231 : BitVec 32 := 1#32
  let v216 : BitVec 32 := Scalar.muli c5_i32_230 c1_i32_231
  let v217 : BitVec 32 := Scalar.addi c0_i32_232 v216
  v217.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_232 : BitVec 32 := 0#32
  let c6_i32_230 : BitVec 32 := 6#32
  let c1_i32_231 : BitVec 32 := 1#32
  let v216 : BitVec 32 := Scalar.muli c6_i32_230 c1_i32_231
  let v217 : BitVec 32 := Scalar.addi c0_i32_232 v216
  v217.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_232 : BitVec 32 := 0#32
  let c7_i32_230 : BitVec 32 := 7#32
  let c1_i32_231 : BitVec 32 := 1#32
  let v216 : BitVec 32 := Scalar.muli c7_i32_230 c1_i32_231
  let v217 : BitVec 32 := Scalar.addi c0_i32_232 v216
  v217.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_232 : BitVec 32 := 0#32
  let c8_i32_230 : BitVec 32 := 8#32
  let c1_i32_231 : BitVec 32 := 1#32
  let v216 : BitVec 32 := Scalar.muli c8_i32_230 c1_i32_231
  let v217 : BitVec 32 := Scalar.addi c0_i32_232 v216
  v217.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_232 : BitVec 32 := 0#32
  let c9_i32_230 : BitVec 32 := 9#32
  let c1_i32_231 : BitVec 32 := 1#32
  let v216 : BitVec 32 := Scalar.muli c9_i32_230 c1_i32_231
  let v217 : BitVec 32 := Scalar.addi c0_i32_232 v216
  v217.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_232 : BitVec 32 := 0#32
  let c10_i32_230 : BitVec 32 := 10#32
  let c1_i32_231 : BitVec 32 := 1#32
  let v216 : BitVec 32 := Scalar.muli c10_i32_230 c1_i32_231
  let v217 : BitVec 32 := Scalar.addi c0_i32_232 v216
  v217.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_232 : BitVec 32 := 0#32
  let c11_i32_230 : BitVec 32 := 11#32
  let c1_i32_231 : BitVec 32 := 1#32
  let v216 : BitVec 32 := Scalar.muli c11_i32_230 c1_i32_231
  let v217 : BitVec 32 := Scalar.addi c0_i32_232 v216
  v217.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_232 : BitVec 32 := 0#32
  let c12_i32_230 : BitVec 32 := 12#32
  let c1_i32_231 : BitVec 32 := 1#32
  let v216 : BitVec 32 := Scalar.muli c12_i32_230 c1_i32_231
  let v217 : BitVec 32 := Scalar.addi c0_i32_232 v216
  v217.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_232 : BitVec 32 := 0#32
  let c13_i32_230 : BitVec 32 := 13#32
  let c1_i32_231 : BitVec 32 := 1#32
  let v216 : BitVec 32 := Scalar.muli c13_i32_230 c1_i32_231
  let v217 : BitVec 32 := Scalar.addi c0_i32_232 v216
  v217.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_232 : BitVec 32 := 0#32
  let c14_i32_230 : BitVec 32 := 14#32
  let c1_i32_231 : BitVec 32 := 1#32
  let v216 : BitVec 32 := Scalar.muli c14_i32_230 c1_i32_231
  let v217 : BitVec 32 := Scalar.addi c0_i32_232 v216
  v217.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_232 : BitVec 32 := 0#32
  let c15_i32_230 : BitVec 32 := 15#32
  let c1_i32_231 : BitVec 32 := 1#32
  let v216 : BitVec 32 := Scalar.muli c15_i32_230 c1_i32_231
  let v217 : BitVec 32 := Scalar.addi c0_i32_232 v216
  v217.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_21 : BitVec 32 := 0#32
  let v65 : BitVec 1 := Scalar.cmpi .ne v2 c0_i32_21
  let v66 : BitVec 32 := Scalar.extui v65
  let c0_i32_22 : BitVec 32 := 0#32
  let v67 : BitVec 1 := Scalar.cmpi .ne v66 c0_i32_22
  v67

def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_232 : BitVec 32 := 0#32
  let c0_i32_233 : BitVec 32 := 0#32
  ![v2.toNat, 0, 0]
def k0_dev17 : Nat :=
  let c0_i32_231 : BitVec 32 := 0#32
  let c0_i32_229 : BitVec 32 := 0#32
  let c1_i32_230 : BitVec 32 := 1#32
  let v216 : BitVec 32 := Scalar.muli c0_i32_229 c1_i32_230
  let v217 : BitVec 32 := Scalar.addi c0_i32_231 v216
  v217.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_23 : BitVec 32 := 1#32
  let v68 : BitVec 1 := Scalar.cmpi .ne v2 c1_i32_23
  let v69 : BitVec 32 := Scalar.extui v68
  let c0_i32_24 : BitVec 32 := 0#32
  let v70 : BitVec 1 := Scalar.cmpi .ne v69 c0_i32_24
  v70

def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_232 : BitVec 32 := 0#32
  let c0_i32_233 : BitVec 32 := 0#32
  ![v2.toNat, 0, 0]
def k0_dev18 : Nat :=
  let c0_i32_231 : BitVec 32 := 0#32
  let c1_i32_229 : BitVec 32 := 1#32
  let c1_i32_230 : BitVec 32 := 1#32
  let v216 : BitVec 32 := Scalar.muli c1_i32_229 c1_i32_230
  let v217 : BitVec 32 := Scalar.addi c0_i32_231 v216
  v217.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_25 : BitVec 32 := 2#32
  let v71 : BitVec 1 := Scalar.cmpi .ne v2 c2_i32_25
  let v72 : BitVec 32 := Scalar.extui v71
  let c0_i32_26 : BitVec 32 := 0#32
  let v73 : BitVec 1 := Scalar.cmpi .ne v72 c0_i32_26
  v73

def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_232 : BitVec 32 := 0#32
  let c0_i32_233 : BitVec 32 := 0#32
  ![v2.toNat, 0, 0]
def k0_dev19 : Nat :=
  let c0_i32_231 : BitVec 32 := 0#32
  let c2_i32_229 : BitVec 32 := 2#32
  let c1_i32_230 : BitVec 32 := 1#32
  let v216 : BitVec 32 := Scalar.muli c2_i32_229 c1_i32_230
  let v217 : BitVec 32 := Scalar.addi c0_i32_231 v216
  v217.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_27 : BitVec 32 := 3#32
  let v74 : BitVec 1 := Scalar.cmpi .ne v2 c3_i32_27
  let v75 : BitVec 32 := Scalar.extui v74
  let c0_i32_28 : BitVec 32 := 0#32
  let v76 : BitVec 1 := Scalar.cmpi .ne v75 c0_i32_28
  v76

def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_232 : BitVec 32 := 0#32
  let c0_i32_233 : BitVec 32 := 0#32
  ![v2.toNat, 0, 0]
def k0_dev20 : Nat :=
  let c0_i32_231 : BitVec 32 := 0#32
  let c3_i32_229 : BitVec 32 := 3#32
  let c1_i32_230 : BitVec 32 := 1#32
  let v216 : BitVec 32 := Scalar.muli c3_i32_229 c1_i32_230
  let v217 : BitVec 32 := Scalar.addi c0_i32_231 v216
  v217.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_29 : BitVec 32 := 4#32
  let v77 : BitVec 1 := Scalar.cmpi .ne v2 c4_i32_29
  let v78 : BitVec 32 := Scalar.extui v77
  let c0_i32_30 : BitVec 32 := 0#32
  let v79 : BitVec 1 := Scalar.cmpi .ne v78 c0_i32_30
  v79

def k0_off5 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_232 : BitVec 32 := 0#32
  let c0_i32_233 : BitVec 32 := 0#32
  ![v2.toNat, 0, 0]
def k0_dev21 : Nat :=
  let c0_i32_231 : BitVec 32 := 0#32
  let c4_i32_229 : BitVec 32 := 4#32
  let c1_i32_230 : BitVec 32 := 1#32
  let v216 : BitVec 32 := Scalar.muli c4_i32_229 c1_i32_230
  let v217 : BitVec 32 := Scalar.addi c0_i32_231 v216
  v217.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_31 : BitVec 32 := 5#32
  let v80 : BitVec 1 := Scalar.cmpi .ne v2 c5_i32_31
  let v81 : BitVec 32 := Scalar.extui v80
  let c0_i32_32 : BitVec 32 := 0#32
  let v82 : BitVec 1 := Scalar.cmpi .ne v81 c0_i32_32
  v82

def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_232 : BitVec 32 := 0#32
  let c0_i32_233 : BitVec 32 := 0#32
  ![v2.toNat, 0, 0]
def k0_dev22 : Nat :=
  let c0_i32_231 : BitVec 32 := 0#32
  let c5_i32_229 : BitVec 32 := 5#32
  let c1_i32_230 : BitVec 32 := 1#32
  let v216 : BitVec 32 := Scalar.muli c5_i32_229 c1_i32_230
  let v217 : BitVec 32 := Scalar.addi c0_i32_231 v216
  v217.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_33 : BitVec 32 := 6#32
  let v83 : BitVec 1 := Scalar.cmpi .ne v2 c6_i32_33
  let v84 : BitVec 32 := Scalar.extui v83
  let c0_i32_34 : BitVec 32 := 0#32
  let v85 : BitVec 1 := Scalar.cmpi .ne v84 c0_i32_34
  v85

def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_232 : BitVec 32 := 0#32
  let c0_i32_233 : BitVec 32 := 0#32
  ![v2.toNat, 0, 0]
def k0_dev23 : Nat :=
  let c0_i32_231 : BitVec 32 := 0#32
  let c6_i32_229 : BitVec 32 := 6#32
  let c1_i32_230 : BitVec 32 := 1#32
  let v216 : BitVec 32 := Scalar.muli c6_i32_229 c1_i32_230
  let v217 : BitVec 32 := Scalar.addi c0_i32_231 v216
  v217.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_35 : BitVec 32 := 7#32
  let v86 : BitVec 1 := Scalar.cmpi .ne v2 c7_i32_35
  let v87 : BitVec 32 := Scalar.extui v86
  let c0_i32_36 : BitVec 32 := 0#32
  let v88 : BitVec 1 := Scalar.cmpi .ne v87 c0_i32_36
  v88

def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_232 : BitVec 32 := 0#32
  let c0_i32_233 : BitVec 32 := 0#32
  ![v2.toNat, 0, 0]
def k0_dev24 : Nat :=
  let c0_i32_231 : BitVec 32 := 0#32
  let c7_i32_229 : BitVec 32 := 7#32
  let c1_i32_230 : BitVec 32 := 1#32
  let v216 : BitVec 32 := Scalar.muli c7_i32_229 c1_i32_230
  let v217 : BitVec 32 := Scalar.addi c0_i32_231 v216
  v217.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_37 : BitVec 32 := 8#32
  let v89 : BitVec 1 := Scalar.cmpi .ne v2 c8_i32_37
  let v90 : BitVec 32 := Scalar.extui v89
  let c0_i32_38 : BitVec 32 := 0#32
  let v91 : BitVec 1 := Scalar.cmpi .ne v90 c0_i32_38
  v91

def k0_off9 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_232 : BitVec 32 := 0#32
  let c0_i32_233 : BitVec 32 := 0#32
  ![v2.toNat, 0, 0]
def k0_dev25 : Nat :=
  let c0_i32_231 : BitVec 32 := 0#32
  let c8_i32_229 : BitVec 32 := 8#32
  let c1_i32_230 : BitVec 32 := 1#32
  let v216 : BitVec 32 := Scalar.muli c8_i32_229 c1_i32_230
  let v217 : BitVec 32 := Scalar.addi c0_i32_231 v216
  v217.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_39 : BitVec 32 := 9#32
  let v92 : BitVec 1 := Scalar.cmpi .ne v2 c9_i32_39
  let v93 : BitVec 32 := Scalar.extui v92
  let c0_i32_40 : BitVec 32 := 0#32
  let v94 : BitVec 1 := Scalar.cmpi .ne v93 c0_i32_40
  v94

def k0_off10 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_232 : BitVec 32 := 0#32
  let c0_i32_233 : BitVec 32 := 0#32
  ![v2.toNat, 0, 0]
def k0_dev26 : Nat :=
  let c0_i32_231 : BitVec 32 := 0#32
  let c9_i32_229 : BitVec 32 := 9#32
  let c1_i32_230 : BitVec 32 := 1#32
  let v216 : BitVec 32 := Scalar.muli c9_i32_229 c1_i32_230
  let v217 : BitVec 32 := Scalar.addi c0_i32_231 v216
  v217.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_41 : BitVec 32 := 10#32
  let v95 : BitVec 1 := Scalar.cmpi .ne v2 c10_i32_41
  let v96 : BitVec 32 := Scalar.extui v95
  let c0_i32_42 : BitVec 32 := 0#32
  let v97 : BitVec 1 := Scalar.cmpi .ne v96 c0_i32_42
  v97

def k0_off11 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_232 : BitVec 32 := 0#32
  let c0_i32_233 : BitVec 32 := 0#32
  ![v2.toNat, 0, 0]
def k0_dev27 : Nat :=
  let c0_i32_231 : BitVec 32 := 0#32
  let c10_i32_229 : BitVec 32 := 10#32
  let c1_i32_230 : BitVec 32 := 1#32
  let v216 : BitVec 32 := Scalar.muli c10_i32_229 c1_i32_230
  let v217 : BitVec 32 := Scalar.addi c0_i32_231 v216
  v217.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_43 : BitVec 32 := 11#32
  let v98 : BitVec 1 := Scalar.cmpi .ne v2 c11_i32_43
  let v99 : BitVec 32 := Scalar.extui v98
  let c0_i32_44 : BitVec 32 := 0#32
  let v100 : BitVec 1 := Scalar.cmpi .ne v99 c0_i32_44
  v100

def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_232 : BitVec 32 := 0#32
  let c0_i32_233 : BitVec 32 := 0#32
  ![v2.toNat, 0, 0]
def k0_dev28 : Nat :=
  let c0_i32_231 : BitVec 32 := 0#32
  let c11_i32_229 : BitVec 32 := 11#32
  let c1_i32_230 : BitVec 32 := 1#32
  let v216 : BitVec 32 := Scalar.muli c11_i32_229 c1_i32_230
  let v217 : BitVec 32 := Scalar.addi c0_i32_231 v216
  v217.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_45 : BitVec 32 := 12#32
  let v101 : BitVec 1 := Scalar.cmpi .ne v2 c12_i32_45
  let v102 : BitVec 32 := Scalar.extui v101
  let c0_i32_46 : BitVec 32 := 0#32
  let v103 : BitVec 1 := Scalar.cmpi .ne v102 c0_i32_46
  v103

def k0_off13 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_232 : BitVec 32 := 0#32
  let c0_i32_233 : BitVec 32 := 0#32
  ![v2.toNat, 0, 0]
def k0_dev29 : Nat :=
  let c0_i32_231 : BitVec 32 := 0#32
  let c12_i32_229 : BitVec 32 := 12#32
  let c1_i32_230 : BitVec 32 := 1#32
  let v216 : BitVec 32 := Scalar.muli c12_i32_229 c1_i32_230
  let v217 : BitVec 32 := Scalar.addi c0_i32_231 v216
  v217.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_47 : BitVec 32 := 13#32
  let v104 : BitVec 1 := Scalar.cmpi .ne v2 c13_i32_47
  let v105 : BitVec 32 := Scalar.extui v104
  let c0_i32_48 : BitVec 32 := 0#32
  let v106 : BitVec 1 := Scalar.cmpi .ne v105 c0_i32_48
  v106

def k0_off14 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_232 : BitVec 32 := 0#32
  let c0_i32_233 : BitVec 32 := 0#32
  ![v2.toNat, 0, 0]
def k0_dev30 : Nat :=
  let c0_i32_231 : BitVec 32 := 0#32
  let c13_i32_229 : BitVec 32 := 13#32
  let c1_i32_230 : BitVec 32 := 1#32
  let v216 : BitVec 32 := Scalar.muli c13_i32_229 c1_i32_230
  let v217 : BitVec 32 := Scalar.addi c0_i32_231 v216
  v217.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_49 : BitVec 32 := 14#32
  let v107 : BitVec 1 := Scalar.cmpi .ne v2 c14_i32_49
  let v108 : BitVec 32 := Scalar.extui v107
  let c0_i32_50 : BitVec 32 := 0#32
  let v109 : BitVec 1 := Scalar.cmpi .ne v108 c0_i32_50
  v109

def k0_off15 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_232 : BitVec 32 := 0#32
  let c0_i32_233 : BitVec 32 := 0#32
  ![v2.toNat, 0, 0]
def k0_dev31 : Nat :=
  let c0_i32_231 : BitVec 32 := 0#32
  let c14_i32_229 : BitVec 32 := 14#32
  let c1_i32_230 : BitVec 32 := 1#32
  let v216 : BitVec 32 := Scalar.muli c14_i32_229 c1_i32_230
  let v217 : BitVec 32 := Scalar.addi c0_i32_231 v216
  v217.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_51 : BitVec 32 := 15#32
  let v110 : BitVec 1 := Scalar.cmpi .ne v2 c15_i32_51
  let v111 : BitVec 32 := Scalar.extui v110
  let c0_i32_52 : BitVec 32 := 0#32
  let v112 : BitVec 1 := Scalar.cmpi .ne v111 c0_i32_52
  v112

def k0_off16 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_232 : BitVec 32 := 0#32
  let c0_i32_233 : BitVec 32 := 0#32
  ![v2.toNat, 0, 0]
def k0_dev32 : Nat :=
  let c0_i32_231 : BitVec 32 := 0#32
  let c15_i32_229 : BitVec 32 := 15#32
  let c1_i32_230 : BitVec 32 := 1#32
  let v216 : BitVec 32 := Scalar.muli c15_i32_229 c1_i32_230
  let v217 : BitVec 32 := Scalar.addi c0_i32_231 v216
  v217.toNat
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x256 : Shape := ⟨2, ![4096, 256]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S_, .bf16⟩
  | .hbm, ⟨2, _⟩ => ⟨S_, .bf16⟩
  | .hbm, ⟨3, _⟩ => ⟨S4096x256, .bf16⟩
  | .hbm, ⟨4, _⟩ => ⟨S4096x256, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.KernelIdeal.Protocol.lean ====
/-
The protocol of the sixteen-device prefix sum, under the rounds library.

Every device owns three cells: its barrier semaphore, its send semaphore and its receive semaphore. Each has one round, with
one duty for every OTHER device:
  • duty `d` of device `c`'s barrier cell is paid by `d`'s signal to `c`, and hands `c` slot `c` of `d`'s gather buffer —
    what `c`'s copy to `d` writes;
  • duty `d` of device `c`'s receive cell is paid when `d`'s copy lands on `c`, and hands `c` its own slot `d` back, now holding
    the column totals of `d`'s block;
  • duty `d` of device `c`'s send cell is paid when `c`'s copy to `d` has been read, and hands `c` back the share of its
    totals that the copy read from.
Slot `c` of device `c`'s own gather buffer takes part in no transfer: it stays with the device, at whatever it held.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Transfers
public import Idealize.ShloMosaic.Lib.ValueLayout
public import Idealize.ShloMosaic.Lib.Tactic

@[expose] public section

noncomputable section

namespace Cert.KernelIdeal.Scan

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's part and the protocol's (duties named by devices) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The state at launch: the memory `m`, every semaphore counter zero, the generator registers `ρ`. -/
def s₀ : MemSt nD τ sig (Elt F) := ⟨m, fun _ => 0, ρ⟩

/-! ## The memrefs and the cells -/

/-- The staged block of `x`, the staged block of the result, the totals to send, the gather buffer. -/
abbrev xM : Memref sig .tc .vmem S256x256 .bf16 := Memref.whole cc0_stg0_0
abbrev oM : Memref sig .tc .vmem S256x256 .f32 := Memref.whole cc0_stg1_0
abbrev tM : Memref sig .tc .vmem S1x256 .f32 := Memref.whole cc0_scratch0
abbrev gM : Memref sig .tc .vmem S16x1x256 .f32 := Memref.whole cc0_scratch1

/-- A slot's rectangle lies inside the gather buffer. -/
theorem slot_inb (d : Dev nD) : ∀ a, (![d.val, 0, 0] : Fin 3 → ℕ) a + S1x1x256.size a ≤ S16x1x256.size a := by
  revert d; decide

/-- Slot `d`'s rectangle of the gather buffer, -/
abbrev slotR (d : Dev nD) : Rect S16x1x256 := Rect.unit (s := S16x1x256) ![d.val, 0, 0] S1x1x256.size (slot_inb d)
/-- and slot `d` as the kernel names it: the slice, its unit axis dropped. -/
abbrev slotM (d : Dev nD) : Memref sig .tc .vmem S1x256 .f32 :=
  (gM.slice (slotR d) (fun _ => rfl)).squeeze S1x256 squeezes_S1x1x256_S1x256

abbrev barS : Sem sig := (SemArray.scalar (sig.barrier 0 rfl) : Sems sig S_).sem
abbrev sendS : DmaSems sig S_ := cc0_scratch2
abbrev recvS : DmaSems sig S_ := cc0_scratch3

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The semaphores of the kernel's own scope: send, receive; -/
abbrev osem : Fin 2 → SemLoc sig := fun | 0 => .dma sendS.sem | 1 => .dma recvS.sem
/-- all three of the protocol: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- What one copy credits its semaphores. -/
abbrev N : ℕ := tM.view.dmaCredit
theorem N_pos : 0 < N := View.dmaCredit_pos _ (by decide)
/-- A slot is credited as the totals are: same shape, same element type. -/
theorem slot_credit (d : Dev nD) : (slotM d).view.dmaCredit = N := rfl

theorem send_ne_bar : (SemLoc.dma sendS.sem : SemLoc sig) ≠ .reg barS := fun h => by cases h
theorem recv_ne_bar : (SemLoc.dma recvS.sem : SemLoc sig) ≠ .reg barS := fun h => by cases h
theorem recv_ne_send : (SemLoc.dma recvS.sem : SemLoc sig) ≠ .dma sendS.sem := by decide

/-! ## Contents -/

/-- Device `c`'s block of `x`, as staged. -/
def xstg (c : Dev nD) : (cc0_stg0_0 : Ref sig .tc).ty.Contents (Elt F) :=
  (win0_0.blk (0 : Fin 1)).view.read (Elt F) ((s₀ m ρ).mem ((c : Thread nD τ).loc main_arg0))

/-- The column totals device `d` sends: the last row of its block's running sums. -/
def totals (d : Dev nD) : (cc0_scratch0 : Ref sig .tc).ty.Contents (Elt F) := k0_pay3 (k0_pay2 (xstg m ρ d))

/-- The totals of all devices, slot by slot. -/
def gath : (cc0_scratch1 : Ref sig .tc).ty.Contents (Elt F) :=
  fun i : S16x1x256.Idx => (totals m ρ (i 0) : S1x256.Idx → Elt F .f32) (ix2 (i 1) (i 2))

/-- Those totals, but the slot of `c` at the contents `f`: what device `c` finds in its gather buffer. -/
def gathBut (c : Dev nD) (f : (cc0_scratch1 : Ref sig .tc).ty.Contents (Elt F)) : (cc0_scratch1 : Ref sig .tc).ty.Contents (Elt F) :=
  fun i : S16x1x256.Idx => if (i 0).val = c.val then f i else gath m ρ i

/-! ## What is held -/

/-- Slot `d` of device `c`'s gather buffer, at the contents `f`. -/
def slotPts (c d : Dev nD) (f : Buf (Elt F) ((slotM d).view.loc (c : Thread nD τ))) : sProp 𝕄 :=
  (slotM d).view.loc (c : Thread nD τ) ↦[(slotM d).view.set]{fullShare} f
/-- The share of `c`'s totals buffer that the copy to `j` reads from. -/
abbrev shareOf (j : Dev nD) : PosShare TreeShare := Transfers.dealOf fullShare (Finset.univ : Finset (Dev nD)) j
def totPts (c j : Dev nD) : sProp 𝕄 :=
  tM.view.loc (c : Thread nD τ) ↦[tM.view.set]{shareOf j} totals m ρ c

omit [FloatOps F] in
instance slotPts_storable (c d : Dev nD) (f) : BI.Storable (upEmb : UEmb _ 𝕄) (slotPts (F := F) c d f) := by unfold slotPts; infer_instance
instance totPts_storable (c j : Dev nD) : BI.Storable (upEmb : UEmb _ 𝕄) (totPts (F := F) m ρ c j) := by unfold totPts; infer_instance

theorem slot_set (d : Dev nD) : (slotM d).view.set = (slotR d).set :=
  (View.set_reshape (v := (gM.slice (slotR d) (fun _ => rfl)).view) _).trans (View.set_slice_whole _ _)

omit [FloatOps F] in
theorem slotPts_eq (c d : Dev nD) (f : Buf (Elt F) ((c : Thread nD τ).loc cc0_scratch1)) :
    slotPts c d f = (((c : Thread nD τ).loc cc0_scratch1) ↦[(slotR d).set]{fullShare} f : sProp 𝕄) := by
  unfold slotPts; rw [slot_set]

/-- Distinct slots share no element, -/
theorem slots_disjoint (d d' : Dev nD) (h : d ≠ d') : Disjoint (slotR d).set (slotR d').set :=
  Ring.lead_disjoint (s := S16x1x256) (0 : Fin 3) 1 (fun d : Fin 16 => (![d.val, 0, 0] : Fin 3 → ℕ)) S1x1x256.size slot_inb
    (fun b => (Nat.one_mul _).symm) rfl d d' h
/-- and together they are the gather buffer. -/
theorem slots_cover : Finset.univ.biUnion (fun d : Dev nD => (slotR d).set) = Finset.univ :=
  Ring.lead_cover (s := S16x1x256) (0 : Fin 3) 1 (fun d : Fin 16 => (![d.val, 0, 0] : Fin 3 → ℕ)) S1x1x256.size slot_inb
    (fun b => (Nat.one_mul _).symm) (by decide) rfl (by decide) rfl

/-- An element of slot `d` has first coordinate `d`. -/
theorem slot_coord {d : Dev nD} {i : S16x1x256.Idx} (hi : i ∈ (slotR d).set) : i 0 = d := by
  have h := Rect.mem_set_unit.mp hi (0 : Fin 3)
  have h1 : (![d.val, 0, 0] : Fin 3 → ℕ) 0 = d.val := rfl
  have h2 : S1x1x256.size (0 : Fin 3) = 1 := rfl
  rw [h1, h2] at h
  exact Fin.ext (by omega)

omit [FloatOps F] in
/-- The gather buffer held whole is held slot by slot. -/
theorem gather_slots (c : Dev nD) (f : Buf (Elt F) ((c : Thread nD τ).loc cc0_scratch1)) :
    (((c : Thread nD τ).loc cc0_scratch1) ↦{fullShare} f : sProp 𝕄) = bigSep Finset.univ fun d : Dev nD => slotPts c d f := by
  rw [Ring.pointsTo_blocks (ℓ := (c : Thread nD τ).loc cc0_scratch1) (fun d : Dev nD => (slotR d).set) slots_disjoint slots_cover f]
  exact bigSep_congr fun d _ => (slotPts_eq c d f).symm

/-- The totals buffer held whole is held share by share, one share for every device. -/
theorem totals_shares (c : Dev nD) :
    (((c : Thread nD τ).loc cc0_scratch0) ↦{fullShare} totals m ρ c : sProp 𝕄) = bigSep Finset.univ fun j : Dev nD => totPts m ρ c j := by
  have h := Transfers.pointsTo_deal (Ix := Unit) (Val := Elt F) (Name := ℕ) (U := UU) (Lvl := ℕ) (ℓ := (c : Thread nD τ).loc cc0_scratch0)
    (S := Finset.univ) (f := totals m ρ c) (Finset.univ : Finset (Dev nD)) ⟨c, Finset.mem_univ c⟩ fullShare
  refine h.trans (bigSep_congr fun j _ => ?_)
  unfold totPts; rw [View.set_whole]

/-- Where element `z` of slot `d` lies in the gather buffer. -/
theorem slot_emb (d : Dev nD) (z : S1x256.Idx) :
    (slotM d).view.emb z = (ix3 (n0 := 16) (n1 := 1) (n2 := 256) d (z 0) (z 1) : S16x1x256.Idx) := by
  show (slotR d).emb (Shape.reshapeEquiv _ z) = _
  obtain ⟨x, y, rfl⟩ : ∃ (x : Fin 1) (y : Fin 256), z = ix2 x y := ⟨z 0, z 1, eq_ix2 z⟩
  rw [reshapeEquiv_ix2_1ab]
  funext a; apply Fin.ext
  rw [Rect.emb_apply]
  fin_cases a
  · show d.val + 1 * 0 = d.val; omega
  · show 0 + 1 * x.val = x.val; omega
  · show 0 + 1 * y.val = y.val; omega

/-- What a copy of `c`'s totals leaves in slot `c` is that slot of the gathered totals. -/
theorem landed_eq (j c : Dev nD) (fd : Buf (Elt F) ((slotM c).view.loc (j : Thread nD τ))) :
    slotPts j c ((slotM c).view.write (Elt F) fd (tM.view.read (Elt F) (totals m ρ c)) Finset.univ) = (slotPts j c (gath m ρ) : sProp 𝕄) := by
  unfold slotPts
  refine pointsTo_congr fun i hi => ?_
  obtain ⟨z, -, rfl⟩ := Finset.mem_map.mp hi
  rw [View.write_emb_of_mem _ _ (Finset.mem_univ _)]
  rw [slot_emb c z]
  rfl

/-! ## The schedule -/

/-- Round 0 of a protocol cell of device `c` has one duty for every other device; nothing else has any. A duty of a barrier
    cell is one unit, a duty of a transfer cell one copy's credit. -/
def sched : Rounds.Schedule (GSem nD τ sig) (Dev nD) 𝕄 where
  duties g r :=
    if r = 0 ∧ g.1.2 = .tc ∧ (g.2 = .reg barS ∨ g.2 = .dma sendS.sem ∨ g.2 = .dma recvS.sem) then Finset.univ.erase g.1.1 else ∅
  unitless _ := False
  amount g _ _ := if g.2 = .reg barS then 1 else N
  payload g _ d :=
    if g.2 = .reg barS then iprop(∃ f, slotPts d g.1.1 f)
    else if g.2 = .dma recvS.sem then slotPts g.1.1 d (gath m ρ)
    else totPts m ρ g.1.1 d
  amount_pos g _ _ _ := by split; exacts [Nat.one_pos, N_pos]

instance sched_payload_storable (g : GSem nD τ sig) (r : ℕ) (d : Dev nD) :
    BI.Storable (upEmb : UEmb _ 𝕄) ((sched (F := F) m ρ).payload g r d) := by
  unfold sched; dsimp only
  (repeat' split) <;> infer_instance

/-- The units of one duty of each kind of cell, -/
def unitOf (k : Fin 3) : ℕ := if k = 0 then 1 else N
/-- and what it hands over: a slot to write into, a share of the totals back, a slot filled. -/
def payOf (k : Fin 3) (c d : Dev nD) : sProp 𝕄 :=
  match k with
  | 0 => iprop(∃ f, slotPts d c f)
  | 1 => totPts m ρ c d
  | 2 => slotPts c d (gath m ρ)

theorem unitOf_pos (k : Fin 3) : 0 < unitOf k := by unfold unitOf; split; exacts [Nat.one_pos, N_pos]

theorem unitOf_bar : unitOf 0 = 1 := if_pos rfl
theorem unitOf_send : unitOf 1 = N := if_neg (by decide)
theorem unitOf_recv : unitOf 2 = N := if_neg (by decide)

/-- The duties, amounts, payloads and the expected total of a protocol cell's round 0. -/
theorem duties_cell (c : Dev nD) (k : Fin 3) : (sched (F := F) m ρ).duties (kcell (c, k)) 0 = Finset.univ.erase c := by
  unfold sched; dsimp only
  refine if_pos ⟨rfl, rfl, ?_⟩
  fin_cases k
  exacts [.inl rfl, .inr (.inl rfl), .inr (.inr rfl)]

theorem duties_later (g : GSem nD τ sig) : ∀ r, 1 ≤ r → (sched (F := F) m ρ).duties g r = ∅ :=
  fun r hr => if_neg fun h => by omega

theorem amount_cell (c : Dev nD) (k : Fin 3) (d : Dev nD) : (sched (F := F) m ρ).amount (kcell (c, k)) 0 d = unitOf k := by
  unfold sched unitOf; dsimp only
  fin_cases k
  exacts [(if_pos rfl).trans (if_pos rfl).symm, (if_neg send_ne_bar).trans (if_neg (by decide)).symm,
    (if_neg recv_ne_bar).trans (if_neg (by decide)).symm]

theorem payload_cell (c : Dev nD) (k : Fin 3) (d : Dev nD) : (sched (F := F) m ρ).payload (kcell (c, k)) 0 d = payOf m ρ k c d := by
  unfold sched payOf; dsimp only
  fin_cases k
  exacts [if_pos rfl, (if_neg send_ne_bar).trans (if_neg recv_ne_send.symm), (if_neg recv_ne_bar).trans (if_pos rfl)]

theorem expect_cell (c : Dev nD) (k : Fin 3) : (sched (F := F) m ρ).expect (kcell (c, k)) 0 = 15 * unitOf k := by
  unfold Schedule.expect Schedule.amountOf
  rw [duties_cell, Finset.sum_congr rfl fun d _ => amount_cell m ρ c k d, Finset.sum_const, Finset.card_erase_of_mem (Finset.mem_univ c)]
  rfl

/-! ## What a device owes, and the levels -/

/-- One duty of the cell `k` of every device in `A`. -/
def due (k : Fin 3) (A : Finset (Dev nD)) : CellTallies nD τ sig Unit := ∑ j ∈ A, tallyAt (kcell (j, k)) () (unitOf k)

theorem due_insert {k : Fin 3} {A : Finset (Dev nD)} {j : Dev nD} (h : j ∉ A) :
    due k (insert j A) = due k A + tallyAt (kcell (j, k)) () (unitOf k) := by
  unfold due; rw [Finset.sum_insert h, add_comm]

theorem due_pos {k : Fin 3} {A : Finset (Dev nD)} {g : GSem nD τ sig} {u : Unit} (h : 0 < due k A g u) : ∃ j, g = kcell (j, k) := by
  induction A using Finset.induction_on with
  | empty => exact absurd h (Nat.lt_irrefl 0)
  | insert j A hj ih =>
    rw [due_insert hj, Pi.add_apply, Finsupp.add_apply, tallyAt_apply] at h
    by_cases hg : g = kcell (j, k) ∧ u = ()
    · exact ⟨j, hg.1⟩
    · rw [if_neg hg] at h; exact ih h

/-- At launch device `c` owes every other device one copy's credit and one barrier unit. -/
def O₀ (c : Dev nD) : CellTallies nD τ sig Unit := due 2 (Finset.univ.erase c) + due 0 (Finset.univ.erase c)

def L (g : GSem nD τ sig) : Finset Unit := if g.1.2 = .tc then {()} else ∅
/-- Barrier cells lie at level 1, receive cells above them, everything else below. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (kcell (c, 0)) () = 1 := if_pos rfl
theorem lv_recv (c : Dev nD) : lv (kcell (c, 2)) () = 2 := (if_neg recv_ne_bar).trans (if_pos rfl)

theorem O₀_pos {c : Dev nD} {g : GSem nD τ sig} {u : Unit} (h : 0 < O₀ c g u) : ∃ j, g = kcell (j, 2) ∨ g = kcell (j, 0) := by
  unfold O₀ at h
  rw [Pi.add_apply, Finsupp.add_apply] at h
  rcases Nat.eq_zero_or_pos (due 2 (Finset.univ.erase c) g u) with h0 | h0
  · rw [h0, Nat.zero_add] at h; obtain ⟨j, hj⟩ := due_pos h; exact ⟨j, .inr hj⟩
  · obtain ⟨j, hj⟩ := due_pos h0; exact ⟨j, .inl hj⟩

omit [FloatOps F] in
/-- The staging semaphores lie below everything a device owes at launch. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => ?_) (fun p hp => ?_) (fun g u hg => ?_)
    · obtain ⟨j, rfl | rfl⟩ := O₀_pos hg <;> exact Finset.mem_singleton_self _
    · rw [Finset.mem_singleton.mp hp]; exact (((if_neg (fun h => by cases h)).trans (if_neg hq)).le : lv ((c : Thread nD τ), .dma q) () ≤ 0)
    · obtain ⟨j, rfl | rfl⟩ := O₀_pos hg
      · exact (lv_recv j).symm ▸ (by decide : 0 < 2)
      · exact (lv_bar j).symm ▸ (by decide : 0 < 1)
  · rw [MayWait_zero]; iintro -; iempintro

omit [FloatOps F] in
/-- At its barrier a device owes receive credits only, and those lie above its barrier cell. -/
theorem mayWait_bar (c : Dev nD) (A : Finset (Dev nD)) : (levAts L lv : sProp 𝕄) ⊢ MayWait (c : Thread nD τ) (.reg barS) () (due 2 A) := by
  refine MayOwe.of_cut (L := L) (lev := lv) 1 (fun p hp => by rw [Finset.mem_singleton.mp hp, L_tc]; exact Finset.mem_singleton_self _)
    (fun g u hg => ?_) (fun p hp => ?_) (fun g u hg => ?_)
  · obtain ⟨j, rfl⟩ := due_pos hg; exact Finset.mem_singleton_self _
  · rw [Finset.mem_singleton.mp hp]; exact (lv_bar c).le
  · obtain ⟨j, rfl⟩ := due_pos hg; exact (lv_recv j).symm ▸ (by decide : 1 < 2)

end Cert.KernelIdeal.Scan

end
-- ==== Proof.KernelIdeal.Steps.lean ====
/-
The repeated steps of the kernel, each proved once: a signal to one device, a copy to one device, a wait for one copy. The
kernel runs over all sixteen device numbers and skips its own, so a step is stated for the device number `n` with the guard
the kernel tests; what is still to do is the set `rest c n` of the other devices from number `n` on.
-/
module

public import proofs.«01_k».proof.Proof.KernelIdeal.Protocol

@[expose] public section

noncomputable section

namespace Cert.KernelIdeal.Scan

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The shared records -/

/-- Every cell's invariant, under the name the launch gave it, and that every cell has reached its round 0. -/
def recs (K : Dev nD × Fin 3 → ℕ) : sProp 𝕄 :=
  bigSep Finset.univ fun ck : Dev nD × Fin 3 => iprop(cellInv ER (sched m ρ) (K ck) (kcell ck) ∗ reached ER (kcell ck) 0)

instance recs_persistent (K : Dev nD × Fin 3 → ℕ) : BI.Persistent (recs m ρ K) := by unfold recs; infer_instance

theorem recs_cell (K : Dev nD × Fin 3 → ℕ) (ck : Dev nD × Fin 3) :
    recs m ρ K ⊢ iprop(cellInv ER (sched m ρ) (K ck) (kcell ck) ∗ reached ER (kcell ck) 0) :=
  bigSep_elim (Finset.mem_univ ck)

/-- A product over a set and one more member, and over a set in two parts, as separating conjunctions. -/
theorem sep_insert {s : Finset (Dev nD)} {j : Dev nD} (h : j ∉ s) {Φ : Dev nD → sProp 𝕄} :
    bigSep (insert j s) Φ = iprop(Φ j ∗ bigSep s Φ) := bigSep_insert h
theorem sep_part {s t : Finset (Dev nD)} (h : t ⊆ s) {Φ : Dev nD → sProp 𝕄} :
    bigSep s Φ = iprop(bigSep t Φ ∗ bigSep (s \ t) Φ) := bigSep_sdiff_split h

/-! ## The devices still to visit -/

/-- The devices other than `c` with number at least `n`. -/
def rest (c : Dev nD) (n : ℕ) : Finset (Dev nD) := Finset.univ.filter fun j => n ≤ j.val ∧ j ≠ c

theorem mem_rest {c j : Dev nD} {n : ℕ} : j ∈ rest c n ↔ n ≤ j.val ∧ j ≠ c := by unfold rest; rw [Finset.mem_filter]; simp

theorem rest_zero (c : Dev nD) : rest c 0 = Finset.univ.erase c := by
  ext j; rw [mem_rest, Finset.mem_erase]; simp
theorem rest_end (c : Dev nD) : rest c 16 = ∅ := by
  ext j; rw [mem_rest]; have := j.isLt; simp
theorem rest_skip (c : Dev nD) : rest c c.val = rest c (c.val + 1) := by
  ext j; rw [mem_rest, mem_rest]
  constructor
  · rintro ⟨h, h'⟩; exact ⟨by have : j.val ≠ c.val := fun e => h' (Fin.ext e); omega, h'⟩
  · rintro ⟨h, h'⟩; exact ⟨by omega, h'⟩
theorem not_mem_rest_succ (c j : Dev nD) : j ∉ rest c (j.val + 1) := by rw [mem_rest]; omega
theorem rest_take {c j : Dev nD} (h : j ≠ c) : rest c j.val = insert j (rest c (j.val + 1)) := by
  ext i; rw [Finset.mem_insert, mem_rest, mem_rest]
  constructor
  · rintro ⟨hi, hi'⟩
    by_cases e : i = j
    · exact .inl e
    · exact .inr ⟨by have : i.val ≠ j.val := fun e' => e (Fin.ext e'); omega, hi'⟩
  · rintro (rfl | ⟨hi, hi'⟩)
    · exact ⟨le_refl _, h⟩
    · exact ⟨by omega, hi'⟩
theorem card_rest_le (c : Dev nD) (n : ℕ) : (rest c n).card ≤ 15 := by
  have h : rest c n ⊆ Finset.univ.erase c := fun j hj => Finset.mem_erase.mpr ⟨(mem_rest.mp hj).2, Finset.mem_univ _⟩
  have := Finset.card_le_card h
  rw [Finset.card_erase_of_mem (Finset.mem_univ c)] at this
  exact this

/-! ## Signals -/

/-- Before the signal to number `n`: for every device still to signal, the duty's token and the slot it will be lent. -/
def signalling (c : Dev nD) (n : ℕ) : sProp 𝕄 :=
  iprop((∃ W, owes (c : Thread nD τ) (due 2 (Finset.univ.erase c) + due 0 (rest c n)) W)
    ∗ bigSep (rest c n) fun j => iprop(dutyTok ER (kcell (j, 0)) 0 c ∗ ∃ f, slotPts c j f))

/-- One guarded signal: skipped at the device's own number, else it pays the barrier duty of device `n`. -/
theorem signal_step (K : Dev nD × Fin 3 → ℕ) (c : Dev nD) (n : ℕ) (hn : n < 16) {p : Prop} [Decidable p] (hp : p ↔ c.val ≠ n)
    (dev : p → Dev nD) (hdev : ∀ h, (dev h).val = n) {α : Type} {Q : α → sProp 𝕄}
    {k : Unit → Prog (TpuEff nD τ sig (Elt F) Λ₀ .tc) α} :
    iprop(recs m ρ K ∗ signalling c n)
      ⊢ iprop((signalling c (n + 1) -∗ wp frame (wpE (defs₀ (F := F)) 𝒱₀ (c : Thread nD τ) none) Set.univ (k ⟨⟩) Q)
        -∗ wp frame (wpE (defs₀ (F := F)) 𝒱₀ (c : Thread nD τ) none) Set.univ
          (if h : p then semSignalWord (dev h) barS 1#32 >>= (fun _ => k ⟨⟩) else k ⟨⟩) Q) := by
  by_cases h : p
  · have hne : dev h ≠ c := fun e => hp.mp h (by rw [← e]; exact hdev h)
    rw [dif_pos h]
    generalize hj : dev h = j at hne ⊢
    obtain rfl : j.val = n := hj ▸ hdev h
    unfold signalling
    rw [rest_take hne, due_insert (not_mem_rest_succ c j), sep_insert (not_mem_rest_succ c j), unitOf_bar, ← add_assoc]
    simp only [semSignalWord, Prog.bind_op, Prog.bind_ret]
    iintro ⟨#Hrec, ⟨%W, HO⟩, ⟨Htok, Hslot⟩, Hrest⟩ Hk
    ihave ⟨#Hinv, #Hr⟩ := (recs_cell m ρ K (j, 0)) $$ Hrec
    iapply (Rounds.wp_signal 𝒱₀ ER (sched m ρ) (c : Thread nD τ) none (dst := (j : Thread nD τ)) (κ := K (j, 0)) (d := c) (r := 0)
      (by rw [duties_cell m ρ j 0]; exact Finset.mem_erase.mpr ⟨hne.symm, Finset.mem_univ _⟩)
      ((amount_cell m ρ j 0 c).trans (unitOf_bar.trans (by decide))) () (due 2 (Finset.univ.erase c) + due 0 (rest c (j.val + 1))) rfl)
      $$ [HO Htok Hslot]
    · isplitr; · iexact Hinv
      isplitl [HO]; · iexact HO
      isplitl [Htok]; · iexact Htok
      isplitl [Hslot]
      · rw [payload_cell m ρ j 0 c]; unfold payOf; iexact Hslot
      · iexact Hr
    iintro HO
    iapply Hk
    isplitl [HO]
    · iexists W; iexact HO
    · iexact Hrest
  · have e : c.val = n := by by_contra h'; exact h (hp.mpr h')
    subst e
    rw [dif_neg h]
    unfold signalling
    rw [rest_skip]
    iintro ⟨-, H⟩ Hk
    iapply Hk; iexact H

/-! ## Copies -/

/-- Before the copy to number `n`: for every device still to copy to, the two duties' tokens, the slot lent by it and the share of
    the totals to read from; and the credits of the copies begun. -/
def sending (c : Dev nD) (n : ℕ) : sProp 𝕄 :=
  iprop((∃ W, owes (c : Thread nD τ) (due 2 (rest c n)) W)
    ∗ (bigSep (rest c n) fun j =>
        iprop(dutyTok ER (kcell (j, 2)) 0 c ∗ dutyTok ER (kcell (c, 1)) 0 j ∗ (∃ f, slotPts j c f) ∗ totPts m ρ c j))
    ∗ cred (tallyAt (kcell (c, 1)) () ((15 - (rest c n).card) * N)))

theorem cred_more (g : GSem nD τ sig) (a b : ℕ) :
    (cred (tallyAt g () (a + b)) : sProp 𝕄) = iprop(cred (tallyAt g () a) ∗ cred (tallyAt g () b)) := by
  rw [← tallyAt_add]; exact BI.Entails.antisymm (cred_add _ _).1 (cred_add _ _).2

/-- One guarded copy: skipped at the device's own number, else it writes the totals into the slot device `n` lent. -/
theorem send_step (K : Dev nD × Fin 3 → ℕ) (c : Dev nD) (n : ℕ) (hn : n < 16) {p : Prop} [Decidable p] (hp : p ↔ c.val ≠ n)
    (dev : p → Dev nD) (hdev : ∀ h, (dev h).val = n) (off : Fin 3 → ℕ) (hoff : off = ![c.val, 0, 0])
    (inb : p → ∀ a, off a + S1x1x256.size a ≤ S16x1x256.size a)
    {hsc : ∀ h : p, (((gM.slice (Rect.unit (s := S16x1x256) off S1x1x256.size (inb h)) (fun _ => rfl)).squeeze S1x256 squeezes_S1x1x256_S1x256 :
      Memref sig (Dev.tc (dev h) : Thread nD τ).2.kind .vmem S1x256 .f32)).view.ref.isScScratch = false}
    {hsrc : tM.view.WordExact}
    {hdst : ∀ h : p, ((gM.slice (Rect.unit (s := S16x1x256) off S1x1x256.size (inb h)) (fun _ => rfl)).squeeze S1x256 squeezes_S1x1x256_S1x256).view.WordExact}
    {hsem : ∀ h : p, DmaTarget.Typed .vmem (.dma recvS.sem) (.remote (Dev.tc (dev h) : Thread nD τ)
      ((gM.slice (Rect.unit (s := S16x1x256) off S1x1x256.size (inb h)) (fun _ => rfl)).squeeze S1x256 squeezes_S1x1x256_S1x256) (.dma sendS.sem) (hsc h))}
    {α : Type} {Q : α → sProp 𝕄} {k : Unit → Prog (TpuEff nD τ sig (Elt F) Λ₀ .tc) α} :
    iprop(recs m ρ K ∗ sending m ρ c n)
      ⊢ iprop((sending m ρ c (n + 1) -∗ wp frame (wpE (defs₀ (F := F)) 𝒱₀ (c : Thread nD τ) none) Set.univ (k ⟨⟩) Q)
        -∗ wp frame (wpE (defs₀ (F := F)) 𝒱₀ (c : Thread nD τ) none) Set.univ
          (if h : p then
            Prog.lift (.enqueueDma tM (.remote (Dev.tc (dev h) : Thread nD τ)
              ((gM.slice (Rect.unit (s := S16x1x256) off S1x1x256.size (inb h)) (fun _ => rfl)).squeeze S1x256 squeezes_S1x1x256_S1x256)
              (.dma sendS.sem) (hsc h)) (.dma recvS.sem) hsrc (hdst h) (hsem h)) >>= (fun _ => k ⟨⟩)
          else k ⟨⟩) Q) := by
  subst hoff
  by_cases h : p
  · have hne : dev h ≠ c := fun e => hp.mp h (by rw [← e]; exact hdev h)
    rw [dif_pos h]
    generalize hsc h = hsc', hdst h = hdst', hsem h = hsem'
    revert hsc' hdst' hsem'
    generalize hj : dev h = j at hne ⊢
    obtain rfl : j.val = n := hj ▸ hdev h
    intro hsc' hsem' hdst'
    unfold sending
    have hcard : 15 - (rest c (j.val + 1)).card = (15 - (rest c j.val).card) + 1 := by
      have h1 := card_rest_le c j.val
      rw [rest_take hne, Finset.card_insert_of_notMem (not_mem_rest_succ c j)] at h1 ⊢
      omega
    rw [hcard, Nat.add_mul, Nat.one_mul, cred_more]
    rw [rest_take hne, due_insert (not_mem_rest_succ c j), sep_insert (not_mem_rest_succ c j), unitOf_recv]
    simp only [Prog.lift, Prog.bind_op, Prog.bind_ret]
    iintro ⟨#Hrec, ⟨%W, HO⟩, ⟨⟨Ht2, Ht1, ⟨%f, Hslot⟩, Htot⟩, Hrest⟩, Hcr⟩ Hk
    ihave ⟨#Hinv2, #Hr2⟩ := (recs_cell m ρ K (j, 2)) $$ Hrec
    ihave ⟨#Hinv1, #Hr1⟩ := (recs_cell m ρ K (c, 1)) $$ Hrec
    have hpay₁ : (tM.view.loc (c : Thread nD τ) ↦[tM.view.set]{shareOf j} totals m ρ c : sProp 𝕄) ⊢ (sched m ρ).payload (kcell (c, 1)) 0 j := by
      rw [payload_cell m ρ c 1 j]; exact BI.Entails.refl _
    have hpay₂ : ((slotM c).view.loc (j : Thread nD τ) ↦[(slotM c).view.set]{fullShare}
        ((slotM c).view.write (Elt F) f (tM.view.read (Elt F) (totals m ρ c)) Finset.univ) : sProp 𝕄) ⊢ (sched m ρ).payload (kcell (j, 2)) 0 c := by
      rw [payload_cell m ρ j 2 c]; exact Entails.of_eq (landed_eq m ρ j c f)
    unfold totPts slotPts
    iapply (Rounds.wp_send_pointsTo 𝒱₀ ER (sched m ρ) (c : Thread nD τ) none (c' := (j : Thread nD τ)) (src := tM) (dst := slotM c) (sS := .dma sendS.sem)
      (sem := .dma recvS.sem) (κ₁ := K (c, 1)) (κ₂ := K (j, 2)) (fs := totals m ρ c) (q := shareOf j)
      (r₁ := 0) (r₂ := 0) (d₁ := j) (d₂ := c) (fd := f)
      (by rw [duties_cell m ρ c 1]; exact Finset.mem_erase.mpr ⟨hne, Finset.mem_univ _⟩)
      (by rw [duties_cell m ρ j 2]; exact Finset.mem_erase.mpr ⟨hne.symm, Finset.mem_univ _⟩)
      () () N (slot_credit c) ((amount_cell m ρ c 1 j).trans unitOf_send) ((amount_cell m ρ j 2 c).trans unitOf_recv)
      (due 2 (rest c (j.val + 1))) rfl (W := W) hpay₁ hpay₂) $$ [HO Ht1 Ht2 Hslot Htot]
    · isplitr; · iexact Hinv1
      isplitr; · iexact Hinv2
      isplitl [Htot]; · iexact Htot
      isplitl [Hslot]; · iexact Hslot
      isplitl [HO]; · iexact HO
      isplitl [Ht1]; · iexact Ht1
      isplitr; · iexact Hr1
      isplitl [Ht2]; · iexact Ht2
      iexact Hr2
    iintro ⟨Hc1, HO⟩
    iapply Hk
    isplitl [HO]
    · iexists W; iexact HO
    isplitl [Hrest]; · iexact Hrest
    isplitl [Hcr]; · iexact Hcr
    iexact Hc1
  · have e : c.val = n := by by_contra h'; exact h (hp.mpr h')
    subst e
    rw [dif_neg h]
    unfold sending
    rw [rest_skip]
    iintro ⟨-, H⟩ Hk
    iapply Hk; iexact H

/-! ## Waits on the transfer cells -/

/-- After `i` of the fifteen waits on the transfer cell `k`: as many copies' credit taken off, with what the duties counted so
    far handed over, and the credit for the waits to come. -/
def waiting (k : Fin 3) (c : Dev nD) (i : ℕ) : sProp 𝕄 :=
  iprop(∃ (S : Finset (Dev nD)) (W : Waits sig Unit), ⌜S ⊆ Finset.univ.erase c⌝
    ∗ owes (c : Thread nD τ) 0 W ∗ atPos ER (kcell (c, k)) 0 S (i * N)
    ∗ (bigSep S fun d => payOf m ρ k c d) ∗ cred (tallyAt (kcell (c, k)) () ((15 - i) * N)))

/-- After all fifteen: the cell is past its round, and every other device's duty has handed over. -/
def waited (k : Fin 3) (c : Dev nD) : sProp 𝕄 :=
  iprop((∃ W, owes (c : Thread nD τ) 0 W) ∗ atPos ER (kcell (c, k)) 1 ∅ 0 ∗ bigSep (Finset.univ.erase c) fun d => payOf m ρ k c d)

/-- A wait for one copy, not the last. -/
theorem wait_step (K : Dev nD × Fin 3 → ℕ) (c : Dev nD) (k : Fin 3) (hk : unitOf k = N) (i : ℕ) (hi : i < 14)
    {α : Type} {Q : α → sProp 𝕄} {w : TpuEff nD τ sig (Elt F) Λ₀ .tc PUnit} {kt : PUnit → Prog (TpuEff nD τ sig (Elt F) Λ₀ .tc) α}
    (hw : ∀ Kt : PUnit → sProp 𝕄, wpE (defs₀ (F := F)) 𝒱₀ (c : Thread nD τ) none Set.univ w Kt
      = waitSpec (c : Thread nD τ) Set.univ (csem k) N Kt) :
    iprop(recs m ρ K ∗ waiting m ρ k c i)
      ⊢ iprop((waiting m ρ k c (i + 1) -∗ wp frame (wpE (defs₀ (F := F)) 𝒱₀ (c : Thread nD τ) none) Set.univ (kt ⟨⟩) Q)
        -∗ wp frame (wpE (defs₀ (F := F)) 𝒱₀ (c : Thread nD τ) none) Set.univ (Prog.lift w >>= kt) Q) := by
  simp only [Prog.lift, Prog.bind_op, Prog.bind_ret]
  unfold waiting
  have hm : 15 - i = (15 - (i + 1)) + 1 := by omega
  rw [hm, Nat.add_mul (15 - (i + 1)), Nat.one_mul, cred_more]
  iintro ⟨#Hrec, ⟨%S, %W, %hS, HO, Hat, Hpay, Hcr, Hc1⟩⟩ Hk
  ihave ⟨#Hinv, #Hr⟩ := (recs_cell m ρ K (c, k)) $$ Hrec
  iapply (Rounds.wp_wait 𝒱₀ ER (sched m ρ) (c : Thread nD τ) none (κ := K (c, k)) (sm := csem k) (k' := N) hw (Set.mem_univ _)
    (cr := Finsupp.single () N) (O := 0) (W := W) {(csem k, ())} (R := 0) (m := i * N) (T := S)
    (Util.total_single _ _) (image_single_subset _ _ _)) $$ [Hc1 HO Hat]
  · isplitr; · iexact Hinv
    isplitl [Hc1]; · iexact Hc1
    isplitl [HO]; · iexact HO
    isplitr; · rw [MayOwe_zero]; iempintro
    iexact Hat
  iintro %S' ⟨%h, HO, Hat, Hnew⟩
  obtain ⟨hSS, hS', -⟩ := h
  rw [duties_cell m ρ c k] at hS'
  iapply Hk
  iexists S', (W ∪ {(csem k, ())})
  isplitr; · ipureintro; exact hS'
  isplitl [HO]; · iexact HO
  rw [Nat.add_mul i, Nat.one_mul]
  isplitl [Hat]; · iexact Hat
  isplitl [Hpay Hnew]
  · rw [sep_part hSS]
    isplitl [Hpay]; · iexact Hpay
    rw [bigSep_congr fun d _ => (payload_cell m ρ c k d).symm]
    iexact Hnew
  iexact Hcr

/-- The last of the fifteen waits. -/
theorem wait_last (K : Dev nD × Fin 3 → ℕ) (c : Dev nD) (k : Fin 3) (hk : unitOf k = N)
    {α : Type} {Q : α → sProp 𝕄} {w : TpuEff nD τ sig (Elt F) Λ₀ .tc PUnit} {kt : PUnit → Prog (TpuEff nD τ sig (Elt F) Λ₀ .tc) α}
    (hw : ∀ Kt : PUnit → sProp 𝕄, wpE (defs₀ (F := F)) 𝒱₀ (c : Thread nD τ) none Set.univ w Kt
      = waitSpec (c : Thread nD τ) Set.univ (csem k) N Kt) :
    iprop(recs m ρ K ∗ waiting m ρ k c 14)
      ⊢ iprop((waited m ρ k c -∗ wp frame (wpE (defs₀ (F := F)) 𝒱₀ (c : Thread nD τ) none) Set.univ (kt ⟨⟩) Q)
        -∗ wp frame (wpE (defs₀ (F := F)) 𝒱₀ (c : Thread nD τ) none) Set.univ (Prog.lift w >>= kt) Q) := by
  simp only [Prog.lift, Prog.bind_op, Prog.bind_ret]
  unfold waiting waited
  rw [show (15 - 14) * N = N from Nat.one_mul N]
  iintro ⟨#Hrec, ⟨%S, %W, %hS, HO, Hat, Hpay, Hc1⟩⟩ Hk
  ihave ⟨#Hinv, #Hr⟩ := (recs_cell m ρ K (c, k)) $$ Hrec
  iapply (Rounds.wp_wait_rest_token 𝒱₀ ER (sched m ρ) (c : Thread nD τ) none (κ := K (c, k)) (sm := csem k) (k' := N) hw (Set.mem_univ _)
    () (O := 0) (W := W) (R := 0) (m := 14 * N) (T := S) (by rw [expect_cell m ρ c k, hk]; omega)) $$ [Hc1 HO Hat]
  · isplitr; · iexact Hinv
    isplitl [Hc1]; · iexact Hc1
    isplitl [HO]; · iexact HO
    isplitr; · rw [MayWait_zero]; iempintro
    iexact Hat
  iintro ⟨HO, Hat, -, Hnew⟩
  iapply Hk
  isplitl [HO]; · iexists (insert (csem k, ()) W); iexact HO
  isplitl [Hat]; · iexact Hat
  rw [sep_part hS]
  isplitl [Hpay]; · iexact Hpay
  rw [bigSep_congr fun d _ => (payload_cell m ρ c k d).symm, ← duties_cell m ρ c k]
  iexact Hnew

/-- A wait on a transfer semaphore for a buffer of the totals' size takes one copy's credit. -/
theorem wait_takes (c : Dev nD) (k : Fin 3) {q : DmaSem sig} (hq : csem k = .dma q) {sp sp' : Space} {s s' : Shape} {e e' : EltTy}
    {src : Memref sig (c : Thread nD τ).2.kind sp' s' e'} {dst : Memref sig .tc sp s e} (hd : dst.view.dmaCredit = N)
    {h₁ : src.view.WordExact} {h₂ : dst.view.WordExact} (Kt : PUnit → sProp 𝕄) :
    wpE (defs₀ (F := F)) 𝒱₀ (c : Thread nD τ) none Set.univ (.waitDma2 q src dst h₁ h₂) Kt
      = waitSpec (c : Thread nD τ) Set.univ (csem k) N Kt := by
  rw [wpE_waitDma2_eq, hd, hq]

/-- A step used before a frame `R` that it leaves alone, the records `P` kept. -/
theorem framed {P S S' R Y Z : sProp 𝕄} [BI.Persistent P] (step : iprop(P ∗ S) ⊢ iprop((S' -∗ Y) -∗ Z)) (h : iprop(P ∗ S' ∗ R) ⊢ Y) :
    iprop(P ∗ S ∗ R) ⊢ Z := by
  iintro ⟨#HP, HS, HR⟩
  iapply step $$ [HS]
  · isplitr; · iexact HP
    iexact HS
  iintro HS'
  iapply h
  isplitr; · iexact HP
  isplitl [HS'] <;> iassumption

/-! ## Loads and stores of a whole buffer -/

/-- A load of all of the buffer. -/
theorem load_all (c : Dev nD) {cs : CoreSpace} {i : Fin (sig.nNear .tc cs)} {hκ : sig.names .tc cs i = true}
    {off : Fin (sig.tyNear .tc cs i).shape.rank → ℕ} (h0 : off = fun _ => 0)
    {inb : ∀ a, off a + (sig.tyNear .tc cs i).shape.size a ≤ (sig.tyNear .tc cs i).shape.size a} (f : (sig.tyNear .tc cs i).Contents (Elt F))
    {hl : (Memref.whole ⟨cs, i, hκ⟩ : Memref sig .tc _ _ _).view.LoadsAt (Rect.unit off (sig.tyNear .tc cs i).shape.size inb).toLoadRect}
    {α : Type} {Q : α → sProp 𝕄} {k : (sig.tyNear .tc cs i).Contents (Elt F) → Prog (TpuEff nD τ sig (Elt F) Λ₀ .tc) α} :
    (((c : Thread nD τ).loc ⟨cs, i, hκ⟩) ↦{fullShare} f)
      ⊢ iprop(((((c : Thread nD τ).loc ⟨cs, i, hκ⟩) ↦{fullShare} f) -∗ wp frame (wpE (defs₀ (F := F)) 𝒱₀ (c : Thread nD τ) none) Set.univ (k f) Q)
        -∗ wp frame (wpE (defs₀ (F := F)) 𝒱₀ (c : Thread nD τ) none) Set.univ
          (Prog.lift (.load (Memref.whole ⟨cs, i, hκ⟩) (Rect.unit off (sig.tyNear .tc cs i).shape.size inb).toLoadRect hl) >>= k) Q) := by
  have h := wp_load (Q := Q) (Γ := .empty) (defs := defs₀ (F := F)) 𝒱₀ (c : Thread nD τ) none Set.univ (m := Memref.whole ⟨cs, i, hκ⟩) (hl := hl) (k := k) (f := f)
    (q := fullShare) (S := Finset.univ) (Finset.subset_univ _)
  rw [Memref.readAt_unit_zero (Elt F) ⟨cs, i, hκ⟩ h0 inb f] at h
  exact h

/-- A store over all of the buffer. -/
theorem store_all (c : Dev nD) {cs : CoreSpace} {i : Fin (sig.nNear .tc cs)} {hκ : sig.names .tc cs i = true}
    {off : Fin (sig.tyNear .tc cs i).shape.rank → ℕ} (h0 : off = fun _ => 0)
    {inb : ∀ a, off a + (sig.tyNear .tc cs i).shape.size a ≤ (sig.tyNear .tc cs i).shape.size a} (f w : (sig.tyNear .tc cs i).Contents (Elt F))
    {hx : ((Memref.whole ⟨cs, i, hκ⟩).access (Rect.unit off (sig.tyNear .tc cs i).shape.size inb) : View sig .tc _ _ _).Stores Finset.univ}
    {hm : (Finset.univ : Finset (Rect.unit off (sig.tyNear .tc cs i).shape.size inb).shape.Idx) = Finset.univ ∨ ∀ a, (Rect.unit off (sig.tyNear .tc cs i).shape.size inb).stride a = 1}
    {α : Type} {Q : α → sProp 𝕄} {k : PUnit → Prog (TpuEff nD τ sig (Elt F) Λ₀ .tc) α} :
    (((c : Thread nD τ).loc ⟨cs, i, hκ⟩) ↦{fullShare} f)
      ⊢ iprop(((((c : Thread nD τ).loc ⟨cs, i, hκ⟩) ↦{fullShare} w) -∗ wp frame (wpE (defs₀ (F := F)) 𝒱₀ (c : Thread nD τ) none) Set.univ (k ⟨⟩) Q)
        -∗ wp frame (wpE (defs₀ (F := F)) 𝒱₀ (c : Thread nD τ) none) Set.univ
          (Prog.lift (.store (Memref.whole ⟨cs, i, hκ⟩) (Rect.unit off (sig.tyNear .tc cs i).shape.size inb) w Finset.univ hx hm) >>= k) Q) := by
  have h := wp_store (Q := Q) (Γ := .empty) (defs := defs₀ (F := F)) 𝒱₀ (c : Thread nD τ) none Set.univ (m := Memref.whole ⟨cs, i, hκ⟩)
    (r := Rect.unit off (sig.tyNear .tc cs i).shape.size inb) (w := w) (Mk := Finset.univ) (hx := hx) (hm := hm) (k := k) (f := f)
    (S := Finset.univ) (Finset.subset_univ _)
  rw [Memref.write_access_unit_zero_univ (Elt F) ⟨cs, i, hκ⟩ h0 inb f w] at h
  exact h

/-- The offsets of a whole buffer. -/
theorem off2_zero : (![0, 0] : Fin 2 → ℕ) = fun _ => 0 := funext fun a => by fin_cases a <;> rfl
theorem off3_zero : (![0, 0, 0] : Fin 3 → ℕ) = fun _ => 0 := funext fun a => by fin_cases a <;> rfl

end Cert.KernelIdeal.Scan

end
-- ==== Proof.KernelIdeal.Signals.lean ====
/-
The kernel's first two parts: the fifteen signals, and the running sums of the device's own block.
-/
module

public import proofs.«01_k».proof.Proof.KernelIdeal.Steps

@[expose] public section

noncomputable section

namespace Cert.KernelIdeal.Scan

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 3 → ℕ) (c : Dev nD)

/-- A device's own number, as the kernel computes it. -/
abbrev ownWord (c : Dev nD) : BitVec 32 := Scalar.remsi (Scalar.divsi (Dev.word c) 1#32) 16#32

set_option maxRecDepth 65536 in
set_option maxHeartbeats 1600000 in
/-- Part 1: the signals to the devices 0 to 7. -/
theorem part1 {R : sProp 𝕄} {Q : (Σ' (_ : Dev nD) (_ : BitVec 32), Sems sig S_) → sProp 𝕄}
    (hQ : iprop(recs m ρ K ∗ signalling c 8 ∗ R) ⊢ Q ⟨c, ownWord c, SemArray.scalar (sig.barrier 0 rfl)⟩) :
    iprop(recs m ρ K ∗ signalling c 0 ∗ R) ⊢ wp frame (wpE (defs₀ (F := F)) 𝒱₀ (c : Thread nD τ) none) Set.univ
      (k0_part1 xM (Memref.isWhole_whole _) oM (Memref.isWhole_whole _) tM (Memref.isWhole_whole _) gM (Memref.isWhole_whole _)
        cc0_scratch2 cc0_scratch3) Q := by
  rw [k0_part1_eq_skeleton]; unfold k0_part1_skel
  rw [wp_bind, Prog.lift, wp_deviceId, wp_ret]
  rw [fupd_wp_eq]
  extract_lets v0 v1 v2 v3 j8 j7 j6 j5 j4 j3 j2 j1
  refine framed (signal_step m ρ K c 0 (by decide) (p := k0_cond1 c = 1#1)
    ((by decide +kernel : ∀ c : Dev nD, k0_cond1 c = 1#1 ↔ c.val ≠ 0) c) (fun h => ⟨k0_dev1, k0_dev1_lt c h⟩) (fun h => k0_dev1_eq) (k := j1)) ?_
  refine framed (signal_step m ρ K c 1 (by decide) (p := k0_cond2 c = 1#1)
    ((by decide +kernel : ∀ c : Dev nD, k0_cond2 c = 1#1 ↔ c.val ≠ 1) c) (fun h => ⟨k0_dev2, k0_dev2_lt c h⟩) (fun h => k0_dev2_eq) (k := j2)) ?_
  refine framed (signal_step m ρ K c 2 (by decide) (p := k0_cond3 c = 1#1)
    ((by decide +kernel : ∀ c : Dev nD, k0_cond3 c = 1#1 ↔ c.val ≠ 2) c) (fun h => ⟨k0_dev3, k0_dev3_lt c h⟩) (fun h => k0_dev3_eq) (k := j3)) ?_
  refine framed (signal_step m ρ K c 3 (by decide) (p := k0_cond4 c = 1#1)
    ((by decide +kernel : ∀ c : Dev nD, k0_cond4 c = 1#1 ↔ c.val ≠ 3) c) (fun h => ⟨k0_dev4, k0_dev4_lt c h⟩) (fun h => k0_dev4_eq) (k := j4)) ?_
  refine framed (signal_step m ρ K c 4 (by decide) (p := k0_cond5 c = 1#1)
    ((by decide +kernel : ∀ c : Dev nD, k0_cond5 c = 1#1 ↔ c.val ≠ 4) c) (fun h => ⟨k0_dev5, k0_dev5_lt c h⟩) (fun h => k0_dev5_eq) (k := j5)) ?_
  refine framed (signal_step m ρ K c 5 (by decide) (p := k0_cond6 c = 1#1)
    ((by decide +kernel : ∀ c : Dev nD, k0_cond6 c = 1#1 ↔ c.val ≠ 5) c) (fun h => ⟨k0_dev6, k0_dev6_lt c h⟩) (fun h => k0_dev6_eq) (k := j6)) ?_
  refine framed (signal_step m ρ K c 6 (by decide) (p := k0_cond7 c = 1#1)
    ((by decide +kernel : ∀ c : Dev nD, k0_cond7 c = 1#1 ↔ c.val ≠ 6) c) (fun h => ⟨k0_dev7, k0_dev7_lt c h⟩) (fun h => k0_dev7_eq) (k := j7)) ?_
  refine framed (signal_step m ρ K c 7 (by decide) (p := k0_cond8 c = 1#1)
    ((by decide +kernel : ∀ c : Dev nD, k0_cond8 c = 1#1 ↔ c.val ≠ 7) c) (fun h => ⟨k0_dev8, k0_dev8_lt c h⟩) (fun h => k0_dev8_eq) (k := j8)) ?_
  simp only [j8]
  rw [Prog.pure_eq_ret, wp_ret]
  exact hQ.trans (fupd_intro (PROP := sProp 𝕄))

/-- The state in which part 2 begins and ends: the staged block and the totals buffer before the frame. -/
abbrev twoBufs (R : sProp 𝕄) : sProp 𝕄 :=
  iprop((((c : Thread nD τ).loc cc0_stg0_0) ↦{fullShare} xstg m ρ c) ∗ (∃ f, ((c : Thread nD τ).loc cc0_scratch0) ↦{fullShare} f) ∗ R)

set_option maxRecDepth 65536 in
set_option maxHeartbeats 1600000 in
/-- Part 2: the signals to the devices 8 to 15, then the running sums of the device's own block. -/
theorem part2 {R : sProp 𝕄} {Q : (Σ' (_ : FVec F S256x256 .f32), FVec F S1x256 .f32) → sProp 𝕄}
    (hQ : iprop(recs m ρ K ∗ signalling c 16 ∗ twoBufs m ρ c R) ⊢ Q ⟨k0_pay1 (xstg m ρ c), k0_pay2 (xstg m ρ c)⟩) :
    iprop(recs m ρ K ∗ signalling c 8 ∗ twoBufs m ρ c R) ⊢ wp frame (wpE (defs₀ (F := F)) 𝒱₀ (c : Thread nD τ) none) Set.univ
      (k0_part2 xM (Memref.isWhole_whole _) oM (Memref.isWhole_whole _) tM (Memref.isWhole_whole _) gM (Memref.isWhole_whole _)
        cc0_scratch2 cc0_scratch3 c (ownWord c) (SemArray.scalar (sig.barrier 0 rfl))) Q := by
  rw [k0_part2_eq_skeleton]; unfold k0_part2_skel
  extract_lets j16 j15 j14 j13 j12 j11 j10 j9
  refine framed (signal_step m ρ K c 8 (by decide) (p := k0_cond9 c = 1#1)
    ((by decide +kernel : ∀ c : Dev nD, k0_cond9 c = 1#1 ↔ c.val ≠ 8) c) (fun h => ⟨k0_dev9, k0_dev9_lt c h⟩) (fun h => k0_dev9_eq) (k := j9)) ?_
  refine framed (signal_step m ρ K c 9 (by decide) (p := k0_cond10 c = 1#1)
    ((by decide +kernel : ∀ c : Dev nD, k0_cond10 c = 1#1 ↔ c.val ≠ 9) c) (fun h => ⟨k0_dev10, k0_dev10_lt c h⟩) (fun h => k0_dev10_eq) (k := j10)) ?_
  refine framed (signal_step m ρ K c 10 (by decide) (p := k0_cond11 c = 1#1)
    ((by decide +kernel : ∀ c : Dev nD, k0_cond11 c = 1#1 ↔ c.val ≠ 10) c) (fun h => ⟨k0_dev11, k0_dev11_lt c h⟩) (fun h => k0_dev11_eq) (k := j11)) ?_
  refine framed (signal_step m ρ K c 11 (by decide) (p := k0_cond12 c = 1#1)
    ((by decide +kernel : ∀ c : Dev nD, k0_cond12 c = 1#1 ↔ c.val ≠ 11) c) (fun h => ⟨k0_dev12, k0_dev12_lt c h⟩) (fun h => k0_dev12_eq) (k := j12)) ?_
  refine framed (signal_step m ρ K c 12 (by decide) (p := k0_cond13 c = 1#1)
    ((by decide +kernel : ∀ c : Dev nD, k0_cond13 c = 1#1 ↔ c.val ≠ 12) c) (fun h => ⟨k0_dev13, k0_dev13_lt c h⟩) (fun h => k0_dev13_eq) (k := j13)) ?_
  refine framed (signal_step m ρ K c 13 (by decide) (p := k0_cond14 c = 1#1)
    ((by decide +kernel : ∀ c : Dev nD, k0_cond14 c = 1#1 ↔ c.val ≠ 13) c) (fun h => ⟨k0_dev14, k0_dev14_lt c h⟩) (fun h => k0_dev14_eq) (k := j14)) ?_
  refine framed (signal_step m ρ K c 14 (by decide) (p := k0_cond15 c = 1#1)
    ((by decide +kernel : ∀ c : Dev nD, k0_cond15 c = 1#1 ↔ c.val ≠ 14) c) (fun h => ⟨k0_dev15, k0_dev15_lt c h⟩) (fun h => k0_dev15_eq) (k := j15)) ?_
  refine framed (signal_step m ρ K c 15 (by decide) (p := k0_cond16 c = 1#1)
    ((by decide +kernel : ∀ c : Dev nD, k0_cond16 c = 1#1 ↔ c.val ≠ 15) c) (fun h => ⟨k0_dev16, k0_dev16_lt c h⟩) (fun h => k0_dev16_eq) (k := j16)) ?_
  iintro ⟨#Hrec, Hs, Hx, ⟨%f, Ht⟩, HR⟩
  iapply (load_all c off2_zero _) $$ Hx; iintro Hx
  iapply (load_all c off2_zero _) $$ Ht; iintro Ht
  rw [Prog.pure_eq_ret, wp_ret]
  imodintro
  iapply hQ
  isplitr; · iexact Hrec
  isplitl [Hs]; · iexact Hs
  isplitl [Hx]; · iexact Hx
  isplitl [Ht]; · iexists f; iexact Ht
  iexact HR

end Cert.KernelIdeal.Scan

end
-- ==== Proof.KernelIdeal.Copies.lean ====
/-
The kernel's third and fourth parts: the barrier, the fifteen copies, and the device's own running sums stored.
-/
module

public import proofs.«01_k».proof.Proof.KernelIdeal.Signals

@[expose] public section

noncomputable section

namespace Cert.KernelIdeal.Scan

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 3 → ℕ) (c : Dev nD)

/-- A product of pairs is the pair of the products. -/
theorem sep_pairs {s : Finset (Dev nD)} {Φ Ψ : Dev nD → sProp 𝕄} :
    bigSep s (fun j => iprop(Φ j ∗ Ψ j)) = iprop(bigSep s Φ ∗ bigSep s Ψ) := bigSep_sep' s Φ Ψ

/-- What a device brings to the barrier: its signals made, the tokens it will pay its copies' duties with, the credit to wait
    with and its place before the wait, the levels, and its totals buffer. -/
def meeting : sProp 𝕄 :=
  iprop(signalling c 16 ∗ (bigSep (Finset.univ.erase c) fun j => dutyTok ER (kcell (j, 2)) 0 c)
    ∗ (bigSep (Finset.univ.erase c) fun j => dutyTok ER (kcell (c, 1)) 0 j)
    ∗ cred (tallyAt (kcell (c, 0)) () 15) ∗ atPos ER (kcell (c, 0)) 0 ∅ 0 ∗ levAts L lv)

/-- What it has after it: everything its copies need, and the share of its totals that no copy reads. -/
def met : sProp 𝕄 := iprop(atPos ER (kcell (c, 0)) 1 ∅ 0 ∗ totPts m ρ c c)

/-- The wait at the barrier: every other device has lent its slot `c`. -/
theorem barrier_step {α : Type} {Q : α → sProp 𝕄} {k : PUnit → Prog (TpuEff nD τ sig (Elt F) Λ₀ .tc) α} :
    iprop(recs m ρ K ∗ (meeting c ∗ (((c : Thread nD τ).loc cc0_scratch0) ↦{fullShare} totals m ρ c)))
      ⊢ iprop(((sending m ρ c 0 ∗ met m ρ c) -∗ wp frame (wpE (defs₀ (F := F)) 𝒱₀ (c : Thread nD τ) none) Set.univ (k ⟨⟩) Q)
        -∗ wp frame (wpE (defs₀ (F := F)) 𝒱₀ (c : Thread nD τ) none) Set.univ (semWaitWord barS 15#32 >>= k) Q) := by
  simp only [semWaitWord, Prog.bind_op, Prog.bind_ret]
  unfold meeting signalling
  rw [rest_end, totals_shares, ← Finset.insert_erase (Finset.mem_univ c), sep_insert (Finset.notMem_erase c _),
    Finset.insert_erase (Finset.mem_univ c)]
  iintro ⟨#Hrec, ⟨⟨⟨%W, HO⟩, -⟩, Ht2, Ht1, Hcr, Hat, #Hlev⟩, Hown, Hshares⟩ Hk
  ihave ⟨#Hinv, #Hr⟩ := (recs_cell m ρ K (c, 0)) $$ Hrec
  ihave HO := (Entails.of_eq (congrArg (fun O => owes (c : Thread nD τ) O W) (show due 2 (Finset.univ.erase c) + due 0 ∅ = due 2 (Finset.univ.erase c) from add_zero _))) $$ HO
  iapply (Rounds.wp_wait_rest_token 𝒱₀ ER (sched m ρ) (c : Thread nD τ) none (κ := K (c, 0)) (sm := .reg barS)
    (wpE_semWait_eq 𝒱₀ (c : Thread nD τ) none Set.univ) (Set.mem_univ _) () (O := due 2 (Finset.univ.erase c)) (W := W) (R := 0) (m := 0) (T := ∅)
    (by rw [expect_cell m ρ c 0, unitOf_bar]; decide)) $$ [Hcr HO Hat]
  · isplitr; · iexact Hinv
    isplitl [Hcr]; · iexact Hcr
    isplitl [HO]; · iexact HO
    isplitr; · iapply (mayWait_bar c _); iexact Hlev
    iexact Hat
  iintro ⟨HO, Hat, -, Hpay⟩
  ihave Hslots := (Entails.of_eq (show bigSep ((sched m ρ).duties (kcell (c, 0)) 0 \ ∅) (fun d => (sched m ρ).payload (kcell (c, 0)) 0 d)
    = bigSep (Finset.univ.erase c) (fun d => iprop(∃ f, slotPts d c f)) from by
      rw [Finset.sdiff_empty, duties_cell]; exact bigSep_congr fun d _ => payload_cell m ρ c 0 d)) $$ Hpay
  iapply Hk
  unfold sending met
  rw [rest_zero, sep_pairs, sep_pairs, sep_pairs]
  isplitr [Hat Hown]
  · isplitl [HO]; · iexists _; iexact HO
    isplitl [Ht2 Ht1 Hslots Hshares]
    · isplitl [Ht2]; · iexact Ht2
      isplitl [Ht1]; · iexact Ht1
      isplitl [Hslots]; · iexact Hslots
      iexact Hshares
    · rw [Finset.card_erase_of_mem (Finset.mem_univ c)]
      rw [show (15 - (Finset.univ.card - 1 : ℕ) : ℕ) = 0 by decide]
      rw [Nat.zero_mul, tallyAt_zero, cred_zero]; iempintro
  isplitl [Hat]; · iexact Hat
  iexact Hown

/-- The totals stored, before the barrier. -/
theorem store_totals {α : Type} {Q : α → sProp 𝕄} {k : PUnit → Prog (TpuEff nD τ sig (Elt F) Λ₀ .tc) α}
    {inb : ∀ a, (![0, 0] : Fin 2 → ℕ) a + S1x256.size a ≤ S1x256.size a}
    {hx : (tM.access (Rect.unit (s := S1x256) ![0, 0] S1x256.size inb) : View sig .tc _ _ _).Stores Finset.univ}
    {hm : (Finset.univ : Finset (Rect.unit (s := S1x256) ![0, 0] S1x256.size inb).shape.Idx) = Finset.univ
      ∨ ∀ a, (Rect.unit (s := S1x256) ![0, 0] S1x256.size inb).stride a = 1} :
    iprop(recs m ρ K ∗ (meeting c ∗ (∃ f, ((c : Thread nD τ).loc cc0_scratch0) ↦{fullShare} f)))
      ⊢ iprop(((meeting c ∗ (((c : Thread nD τ).loc cc0_scratch0) ↦{fullShare} totals m ρ c))
          -∗ wp frame (wpE (defs₀ (F := F)) 𝒱₀ (c : Thread nD τ) none) Set.univ (k ⟨⟩) Q)
        -∗ wp frame (wpE (defs₀ (F := F)) 𝒱₀ (c : Thread nD τ) none) Set.univ
          (Prog.lift (.store tM (Rect.unit (s := S1x256) ![0, 0] S1x256.size inb) (k0_pay3 (k0_pay2 (xstg m ρ c))) Finset.univ hx hm) >>= k) Q) := by
  iintro ⟨-, Hm, ⟨%f, Ht⟩⟩ Hk
  iapply (store_all c off2_zero f _) $$ Ht; iintro Ht
  iapply Hk
  isplitl [Hm]; · iexact Hm
  iexact Ht

/-- Regrouping a frame. -/
theorem sep_regroup (A B C D : sProp 𝕄) : iprop(A ∗ (B ∗ C) ∗ D) ⊢ iprop(A ∗ B ∗ C ∗ D) := by
  iintro ⟨HA, ⟨HB, HC⟩, HD⟩
  isplitl [HA]; · iexact HA
  isplitl [HB]; · iexact HB
  isplitl [HC] <;> iassumption

set_option maxRecDepth 65536 in
set_option maxHeartbeats 3200000 in
/-- Part 3: the totals stored, the barrier, and the copies to the devices 0 to 8. -/
theorem part3 {R : sProp 𝕄} {Q : BitVec 32 → sProp 𝕄} (hQ : iprop(recs m ρ K ∗ sending m ρ c 9 ∗ met m ρ c ∗ R) ⊢ Q 9#32) :
    iprop(recs m ρ K ∗ (meeting c ∗ (∃ f, ((c : Thread nD τ).loc cc0_scratch0) ↦{fullShare} f)) ∗ R) ⊢ wp frame (wpE (defs₀ (F := F)) 𝒱₀ (c : Thread nD τ) none) Set.univ
      (k0_part3 xM (Memref.isWhole_whole _) oM (Memref.isWhole_whole _) tM (Memref.isWhole_whole _) gM (Memref.isWhole_whole _)
        cc0_scratch2 cc0_scratch3 c (ownWord c) (SemArray.scalar (sig.barrier 0 rfl)) (k0_pay2 (xstg m ρ c))) Q := by
  rw [k0_part3_eq_skeleton]; unfold k0_part3_skel
  refine framed (store_totals m ρ K c) ?_
  refine framed (barrier_step m ρ K c) ?_
  refine (sep_regroup _ _ _ _).trans ?_
  extract_lets j25 j24 j23 j22 j21 j20 j19 j18 j17
  refine framed (send_step m ρ K c 0 (by decide) (p := k0_cond17 c = 1#1)
    ((by decide +kernel : ∀ c : Dev nD, k0_cond17 c = 1#1 ↔ c.val ≠ 0) c) (fun h => ⟨k0_dev17, k0_dev17_lt c h⟩) (fun h => k0_dev17_eq)
    (k0_off1 c) (k0_off1_eq c) (fun h => k0_off1_inb c h) (k := j17)) ?_
  refine framed (send_step m ρ K c 1 (by decide) (p := k0_cond18 c = 1#1)
    ((by decide +kernel : ∀ c : Dev nD, k0_cond18 c = 1#1 ↔ c.val ≠ 1) c) (fun h => ⟨k0_dev18, k0_dev18_lt c h⟩) (fun h => k0_dev18_eq)
    (k0_off2 c) (k0_off2_eq c) (fun h => k0_off2_inb c h) (k := j18)) ?_
  refine framed (send_step m ρ K c 2 (by decide) (p := k0_cond19 c = 1#1)
    ((by decide +kernel : ∀ c : Dev nD, k0_cond19 c = 1#1 ↔ c.val ≠ 2) c) (fun h => ⟨k0_dev19, k0_dev19_lt c h⟩) (fun h => k0_dev19_eq)
    (k0_off3 c) (k0_off3_eq c) (fun h => k0_off3_inb c h) (k := j19)) ?_
  refine framed (send_step m ρ K c 3 (by decide) (p := k0_cond20 c = 1#1)
    ((by decide +kernel : ∀ c : Dev nD, k0_cond20 c = 1#1 ↔ c.val ≠ 3) c) (fun h => ⟨k0_dev20, k0_dev20_lt c h⟩) (fun h => k0_dev20_eq)
    (k0_off4 c) (k0_off4_eq c) (fun h => k0_off4_inb c h) (k := j20)) ?_
  refine framed (send_step m ρ K c 4 (by decide) (p := k0_cond21 c = 1#1)
    ((by decide +kernel : ∀ c : Dev nD, k0_cond21 c = 1#1 ↔ c.val ≠ 4) c) (fun h => ⟨k0_dev21, k0_dev21_lt c h⟩) (fun h => k0_dev21_eq)
    (k0_off5 c) (k0_off5_eq c) (fun h => k0_off5_inb c h) (k := j21)) ?_
  refine framed (send_step m ρ K c 5 (by decide) (p := k0_cond22 c = 1#1)
    ((by decide +kernel : ∀ c : Dev nD, k0_cond22 c = 1#1 ↔ c.val ≠ 5) c) (fun h => ⟨k0_dev22, k0_dev22_lt c h⟩) (fun h => k0_dev22_eq)
    (k0_off6 c) (k0_off6_eq c) (fun h => k0_off6_inb c h) (k := j22)) ?_
  refine framed (send_step m ρ K c 6 (by decide) (p := k0_cond23 c = 1#1)
    ((by decide +kernel : ∀ c : Dev nD, k0_cond23 c = 1#1 ↔ c.val ≠ 6) c) (fun h => ⟨k0_dev23, k0_dev23_lt c h⟩) (fun h => k0_dev23_eq)
    (k0_off7 c) (k0_off7_eq c) (fun h => k0_off7_inb c h) (k := j23)) ?_
  refine framed (send_step m ρ K c 7 (by decide) (p := k0_cond24 c = 1#1)
    ((by decide +kernel : ∀ c : Dev nD, k0_cond24 c = 1#1 ↔ c.val ≠ 7) c) (fun h => ⟨k0_dev24, k0_dev24_lt c h⟩) (fun h => k0_dev24_eq)
    (k0_off8 c) (k0_off8_eq c) (fun h => k0_off8_inb c h) (k := j24)) ?_
  refine framed (send_step m ρ K c 8 (by decide) (p := k0_cond25 c = 1#1)
    ((by decide +kernel : ∀ c : Dev nD, k0_cond25 c = 1#1 ↔ c.val ≠ 8) c) (fun h => ⟨k0_dev25, k0_dev25_lt c h⟩) (fun h => k0_dev25_eq)
    (k0_off9 c) (k0_off9_eq c) (fun h => k0_off9_inb c h) (k := j25)) ?_
  simp only [j25]
  rw [Prog.pure_eq_ret, wp_ret]
  exact hQ.trans (fupd_intro (PROP := sProp 𝕄))

end Cert.KernelIdeal.Scan

end
-- ==== Proof.KernelIdeal.Arrivals.lean ====
/-
The kernel's fourth part: the last copies, the device's own running sums stored, and the waits for the copies to arrive.
-/
module

public import proofs.«01_k».proof.Proof.KernelIdeal.Copies

@[expose] public section

noncomputable section

namespace Cert.KernelIdeal.Scan

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 3 → ℕ) (c : Dev nD)

/-- Slot 0 as the kernel names it, the buffer its waits quote. -/
abbrev slot0 : Memref sig .tc .vmem S1x256 .f32 :=
  (gM.slice (Rect.unit (s := S16x1x256) ![0, 0, 0] S1x1x256.size inb_S16x1x256_S1x1x256_0_0_0) (fun _ => rfl)).squeeze S1x256 squeezes_S1x1x256_S1x256

/-- A wait for one copy to arrive, not the last. -/
theorem arrive_step (i : ℕ) (hi : i < 14) {α : Type} {Q : α → sProp 𝕄} {kt : PUnit → Prog (TpuEff nD τ sig (Elt F) Λ₀ .tc) α}
    {h₁ : tM.view.WordExact} {h₂ : slot0.view.WordExact} :
    iprop(recs m ρ K ∗ waiting m ρ 2 c i)
      ⊢ iprop((waiting m ρ 2 c (i + 1) -∗ wp frame (wpE (defs₀ (F := F)) 𝒱₀ (c : Thread nD τ) none) Set.univ (kt ⟨⟩) Q)
        -∗ wp frame (wpE (defs₀ (F := F)) 𝒱₀ (c : Thread nD τ) none) Set.univ (Prog.lift (.waitDma2 recvS.sem tM slot0 h₁ h₂) >>= kt) Q) :=
  wait_step m ρ K c 2 unitOf_recv i hi (wait_takes c 2 rfl (slot_credit 0))

/-- The last of them. -/
theorem arrive_last {α : Type} {Q : α → sProp 𝕄} {kt : PUnit → Prog (TpuEff nD τ sig (Elt F) Λ₀ .tc) α}
    {h₁ : tM.view.WordExact} {h₂ : slot0.view.WordExact} :
    iprop(recs m ρ K ∗ waiting m ρ 2 c 14)
      ⊢ iprop((waited m ρ 2 c -∗ wp frame (wpE (defs₀ (F := F)) 𝒱₀ (c : Thread nD τ) none) Set.univ (kt ⟨⟩) Q)
        -∗ wp frame (wpE (defs₀ (F := F)) 𝒱₀ (c : Thread nD τ) none) Set.univ (Prog.lift (.waitDma2 recvS.sem tM slot0 h₁ h₂) >>= kt) Q) :=
  wait_last m ρ K c 2 unitOf_recv (wait_takes c 2 rfl (slot_credit 0))

/-- A wait for one copy to have been read, not the last. -/
theorem leave_step (i : ℕ) (hi : i < 14) {α : Type} {Q : α → sProp 𝕄} {kt : PUnit → Prog (TpuEff nD τ sig (Elt F) Λ₀ .tc) α}
    {h₁ : slot0.view.WordExact} {h₂ : tM.view.WordExact} :
    iprop(recs m ρ K ∗ waiting m ρ 1 c i)
      ⊢ iprop((waiting m ρ 1 c (i + 1) -∗ wp frame (wpE (defs₀ (F := F)) 𝒱₀ (c : Thread nD τ) none) Set.univ (kt ⟨⟩) Q)
        -∗ wp frame (wpE (defs₀ (F := F)) 𝒱₀ (c : Thread nD τ) none) Set.univ (Prog.lift (.waitDma2 sendS.sem slot0 tM h₁ h₂) >>= kt) Q) :=
  wait_step m ρ K c 1 unitOf_send i hi (wait_takes c 1 rfl rfl)

/-- The last of them. -/
theorem leave_last {α : Type} {Q : α → sProp 𝕄} {kt : PUnit → Prog (TpuEff nD τ sig (Elt F) Λ₀ .tc) α}
    {h₁ : slot0.view.WordExact} {h₂ : tM.view.WordExact} :
    iprop(recs m ρ K ∗ waiting m ρ 1 c 14)
      ⊢ iprop((waited m ρ 1 c -∗ wp frame (wpE (defs₀ (F := F)) 𝒱₀ (c : Thread nD τ) none) Set.univ (kt ⟨⟩) Q)
        -∗ wp frame (wpE (defs₀ (F := F)) 𝒱₀ (c : Thread nD τ) none) Set.univ (Prog.lift (.waitDma2 sendS.sem slot0 tM h₁ h₂) >>= kt) Q) :=
  wait_last m ρ K c 1 unitOf_send (wait_takes c 1 rfl rfl)

/-- Before any wait on a transfer cell: its place, the credit for fifteen copies, nothing owed. -/
theorem waiting_start (k : Fin 3) :
    iprop((∃ W, owes (c : Thread nD τ) 0 W) ∗ atPos ER (kcell (c, k)) 0 ∅ 0 ∗ cred (tallyAt (kcell (c, k)) () (15 * N))) ⊢ waiting m ρ k c 0 := by
  unfold waiting
  iintro ⟨⟨%W, HO⟩, Hat, Hcr⟩
  iexists (∅ : Finset (Dev nD)), W
  isplitr; · ipureintro; exact Finset.empty_subset _
  isplitl [HO]; · iexact HO
  isplitl [Hat]; · rw [Nat.zero_mul]; iexact Hat
  isplitr; · rw [bigSep_empty]; iempintro
  iexact Hcr

/-- With every copy begun nothing is owed, and there is credit for fifteen on the send cell. -/
theorem sending_end : sending m ρ c 16 ⊢ iprop((∃ W, owes (c : Thread nD τ) 0 W) ∗ cred (tallyAt (kcell (c, 1)) () (15 * N))) := by
  unfold sending
  rw [rest_end]
  iintro ⟨HO, -, Hcr⟩
  isplitl [HO]; · iexact HO
  iexact Hcr

/-- What part 4 starts from besides the copies: the result's buffer, and the credit and the place to wait for arrivals with. -/
def receiving : sProp 𝕄 :=
  iprop((∃ g, ((c : Thread nD τ).loc cc0_stg1_0) ↦{fullShare} g) ∗ cred (tallyAt (kcell (c, 2)) () (15 * N)) ∗ atPos ER (kcell (c, 2)) 0 ∅ 0)

/-- What it leaves besides the waits: the running sums in the result's buffer, and the credit to wait on the copies sent. -/
def summed : sProp 𝕄 :=
  iprop((((c : Thread nD τ).loc cc0_stg1_0) ↦{fullShare} k0_pay1 (xstg m ρ c)) ∗ cred (tallyAt (kcell (c, 1)) () (15 * N)))

set_option maxRecDepth 65536 in
set_option maxHeartbeats 3200000 in
/-- Part 4: the copies to the devices 9 to 15, the running sums stored, and the first wait for an arrival. -/
theorem part4 {R : sProp 𝕄} {Q : BitVec 32 → sProp 𝕄} (v : BitVec 32)
    (hQ : iprop(recs m ρ K ∗ waiting m ρ 2 c 1 ∗ summed m ρ c ∗ R) ⊢ Q (Scalar.muli 0#32 1#32)) :
    iprop(recs m ρ K ∗ sending m ρ c 9 ∗ receiving c ∗ R) ⊢ wp frame (wpE (defs₀ (F := F)) 𝒱₀ (c : Thread nD τ) none) Set.univ
      (k0_part4 xM (Memref.isWhole_whole _) oM (Memref.isWhole_whole _) tM (Memref.isWhole_whole _) gM (Memref.isWhole_whole _)
        cc0_scratch2 cc0_scratch3 c (ownWord c) (k0_pay1 (xstg m ρ c)) v) Q := by
  rw [k0_part4_eq_skeleton]; unfold k0_part4_skel
  extract_lets v116 v117 v118 j32 j31 j30 j29 j28 j27 j26
  refine framed (send_step m ρ K c 9 (by decide) (p := k0_cond26 c = 1#1)
    ((by decide +kernel : ∀ c : Dev nD, k0_cond26 c = 1#1 ↔ c.val ≠ 9) c) (fun h => ⟨k0_dev26, k0_dev26_lt c h⟩) (fun h => k0_dev26_eq)
    (k0_off10 c) (k0_off10_eq c) (fun h => k0_off10_inb c h) (k := j26)) ?_
  refine framed (send_step m ρ K c 10 (by decide) (p := k0_cond27 c = 1#1)
    ((by decide +kernel : ∀ c : Dev nD, k0_cond27 c = 1#1 ↔ c.val ≠ 10) c) (fun h => ⟨k0_dev27, k0_dev27_lt c h⟩) (fun h => k0_dev27_eq)
    (k0_off11 c) (k0_off11_eq c) (fun h => k0_off11_inb c h) (k := j27)) ?_
  refine framed (send_step m ρ K c 11 (by decide) (p := k0_cond28 c = 1#1)
    ((by decide +kernel : ∀ c : Dev nD, k0_cond28 c = 1#1 ↔ c.val ≠ 11) c) (fun h => ⟨k0_dev28, k0_dev28_lt c h⟩) (fun h => k0_dev28_eq)
    (k0_off12 c) (k0_off12_eq c) (fun h => k0_off12_inb c h) (k := j28)) ?_
  refine framed (send_step m ρ K c 12 (by decide) (p := k0_cond29 c = 1#1)
    ((by decide +kernel : ∀ c : Dev nD, k0_cond29 c = 1#1 ↔ c.val ≠ 12) c) (fun h => ⟨k0_dev29, k0_dev29_lt c h⟩) (fun h => k0_dev29_eq)
    (k0_off13 c) (k0_off13_eq c) (fun h => k0_off13_inb c h) (k := j29)) ?_
  refine framed (send_step m ρ K c 13 (by decide) (p := k0_cond30 c = 1#1)
    ((by decide +kernel : ∀ c : Dev nD, k0_cond30 c = 1#1 ↔ c.val ≠ 13) c) (fun h => ⟨k0_dev30, k0_dev30_lt c h⟩) (fun h => k0_dev30_eq)
    (k0_off14 c) (k0_off14_eq c) (fun h => k0_off14_inb c h) (k := j30)) ?_
  refine framed (send_step m ρ K c 14 (by decide) (p := k0_cond31 c = 1#1)
    ((by decide +kernel : ∀ c : Dev nD, k0_cond31 c = 1#1 ↔ c.val ≠ 14) c) (fun h => ⟨k0_dev31, k0_dev31_lt c h⟩) (fun h => k0_dev31_eq)
    (k0_off15 c) (k0_off15_eq c) (fun h => k0_off15_inb c h) (k := j31)) ?_
  refine framed (send_step m ρ K c 15 (by decide) (p := k0_cond32 c = 1#1)
    ((by decide +kernel : ∀ c : Dev nD, k0_cond32 c = 1#1 ↔ c.val ≠ 15) c) (fun h => ⟨k0_dev32, k0_dev32_lt c h⟩) (fun h => k0_dev32_eq)
    (k0_off16 c) (k0_off16_eq c) (fun h => k0_off16_inb c h) (k := j32)) ?_
  simp only [j32, v118, v117, v116]
  iintro ⟨#Hrec, Hs, Hrecv, HR⟩
  unfold receiving
  icases Hrecv with ⟨⟨%g, Ho⟩, Hcr, Hat⟩
  ihave ⟨HO, Hcs⟩ := (sending_end m ρ c) $$ Hs
  iapply (load_all c off2_zero _) $$ Ho; iintro Ho
  iapply (store_all c off2_zero _ _) $$ Ho; iintro Ho
  ihave Hw := (waiting_start m ρ c 2) $$ [HO Hat Hcr]
  · isplitl [HO]; · iexact HO
    isplitl [Hat]; · iexact Hat
    iexact Hcr
  iapply (arrive_step m ρ K c 0 (by decide)) $$ [Hw]
  · isplitr; · iexact Hrec
    iexact Hw
  iintro Hw
  rw [Prog.pure_eq_ret, wp_ret]; imodintro
  iapply hQ
  isplitr; · iexact Hrec
  isplitl [Hw]; · iexact Hw
  isplitl [Ho Hcs]
  · unfold summed
    isplitl [Ho]; · iexact Ho
    iexact Hcs
  iexact HR

end Cert.KernelIdeal.Scan

end
-- ==== Proof.KernelIdeal.Waits.lean ====
/-
The kernel's parts five to nine: the waits for arrivals, the totals of the devices before added, and the waits for the copies sent.
-/
module

public import proofs.«01_k».proof.Proof.KernelIdeal.Arrivals

@[expose] public section

noncomputable section

namespace Cert.KernelIdeal.Scan

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 3 → ℕ) (c : Dev nD)

/-! ## The slots back together -/

/-- The slots the other devices filled, with the device's own, are the gather buffer. -/
theorem gather_join (f : Buf (Elt F) ((c : Thread nD τ).loc cc0_scratch1)) :
    iprop((bigSep (Finset.univ.erase c) fun d => slotPts c d (gath m ρ)) ∗ slotPts c c f)
      ⊢ (((c : Thread nD τ).loc cc0_scratch1) ↦{fullShare} gathBut m ρ c f : sProp 𝕄) := by
  rw [gather_slots, ← Finset.insert_erase (Finset.mem_univ c), sep_insert (Finset.notMem_erase c _), Finset.erase_insert (Finset.notMem_erase c _)]
  have hown : slotPts c c f = slotPts c c (gathBut m ρ c f) := by
    rw [slotPts_eq, slotPts_eq]
    refine pointsTo_congr fun i hi => ?_
    have hc : (i 0).val = c.val := congrArg Fin.val (slot_coord hi)
    exact (if_pos hc).symm
  have hothers : (bigSep (Finset.univ.erase c) fun d => slotPts c d (gath m ρ)) = bigSep (Finset.univ.erase c) fun d => slotPts c d (gathBut m ρ c f) :=
    bigSep_congr fun d hd => by
      rw [slotPts_eq, slotPts_eq]
      refine pointsTo_congr fun i hi => ?_
      have hc : ¬ (i 0).val = c.val := fun e => (Finset.mem_erase.mp hd).1 ((slot_coord hi).symm.trans (Fin.ext e))
      exact (if_neg hc).symm
  rw [← hown, ← hothers]
  iintro ⟨H1, H2⟩
  isplitl [H2] <;> iassumption

/-- Device `c`'s own number, as the kernel computes it. -/
theorem ownWord_eq : ownWord c = BitVec.ofNat 32 c.val := (by decide +kernel : ∀ c : Dev nD, ownWord c = BitVec.ofNat 32 c.val) c

/-- The mask the kernel sums under selects the slots of the devices before. -/
theorem mask_at (i : S16x1x256.Idx) :
    cmpi .slt (iota .tc S16x1x256 32 [0] iota_S16x1x256_d0_w32) (broadcast S16x1x256 (ownWord c)) i = if (i 0).val < c.val then 1#1 else 0#1 := by
  show IntOp.cmpi .slt (BitVec.ofNat 32 (0 * 16 + (i 0).val)) (ownWord c) = _
  rw [ownWord_eq, Nat.zero_mul, Nat.zero_add]
  exact (by decide +kernel : ∀ d c : Fin 16, IntOp.cmpi .slt (BitVec.ofNat 32 d.val) (BitVec.ofNat 32 c.val) = if d.val < c.val then 1#1 else 0#1) (i 0) c

/-- A device's own slot is masked out: whatever it holds, the sum is that of the totals. -/
theorem sum_masks (f : Buf (Elt F) ((c : Thread nD τ).loc cc0_scratch1)) (v : Vec F S256x256 .f32) :
    k0_pay4 (ownWord c) (gathBut m ρ c f) v = k0_pay4 (ownWord c) (gath m ρ) v := by
  unfold k0_pay4
  have h : (select (cmpi .slt (iota .tc S16x1x256 32 [0] iota_S16x1x256_d0_w32) (broadcast S16x1x256 (ownWord c))) (gathBut m ρ c f)
      (broadcast S16x1x256 (Scalar.ofBits .f32 0x00000000#32 : F .f32)) : Vec F S16x1x256 .f32)
    = select (cmpi .slt (iota .tc S16x1x256 32 [0] iota_S16x1x256_d0_w32) (broadcast S16x1x256 (ownWord c))) (gath m ρ)
      (broadcast S16x1x256 (Scalar.ofBits .f32 0x00000000#32 : F .f32)) := by
    funext i
    rw [select_apply, select_apply, mask_at]
    by_cases hc : (i 0).val = c.val
    · rw [if_neg (by omega)]; rfl
    · rw [show gathBut m ρ c f i = gath m ρ i from if_neg hc]
  simp only [h]

/-! ## Waiting for the arrivals -/

set_option maxRecDepth 65536 in
set_option maxHeartbeats 1600000 in
/-- Part 5: five waits for an arrival. -/
theorem part5 {R : sProp 𝕄} {Q : PUnit → sProp 𝕄} (v : BitVec 32) (hQ : iprop(recs m ρ K ∗ waiting m ρ 2 c 6 ∗ R) ⊢ Q ⟨⟩) :
    iprop(recs m ρ K ∗ waiting m ρ 2 c 1 ∗ R) ⊢ wp frame (wpE (defs₀ (F := F)) 𝒱₀ (c : Thread nD τ) none) Set.univ
      (k0_part5 xM (Memref.isWhole_whole _) oM (Memref.isWhole_whole _) tM (Memref.isWhole_whole _) gM (Memref.isWhole_whole _)
        cc0_scratch2 cc0_scratch3 v) Q := by
  rw [k0_part5_eq_skeleton]; unfold k0_part5_skel
  refine framed (arrive_step m ρ K c 1 (by decide)) ?_
  refine framed (arrive_step m ρ K c 2 (by decide)) ?_
  refine framed (arrive_step m ρ K c 3 (by decide)) ?_
  refine framed (arrive_step m ρ K c 4 (by decide)) ?_
  refine framed (arrive_step m ρ K c 5 (by decide)) ?_
  rw [Prog.pure_eq_ret, wp_ret]
  exact hQ.trans (fupd_intro (PROP := sProp 𝕄))

set_option maxRecDepth 65536 in
set_option maxHeartbeats 1600000 in
/-- Part 6: six more. -/
theorem part6 {R : sProp 𝕄} {Q : (Σ' (_ : BitVec 32), BitVec 32) → sProp 𝕄} (hQ : iprop(recs m ρ K ∗ waiting m ρ 2 c 12 ∗ R) ⊢ Q ⟨0#32, 1#32⟩) :
    iprop(recs m ρ K ∗ waiting m ρ 2 c 6 ∗ R) ⊢ wp frame (wpE (defs₀ (F := F)) 𝒱₀ (c : Thread nD τ) none) Set.univ
      (k0_part6 xM (Memref.isWhole_whole _) oM (Memref.isWhole_whole _) tM (Memref.isWhole_whole _) gM (Memref.isWhole_whole _)
        cc0_scratch2 cc0_scratch3) Q := by
  rw [k0_part6_eq_skeleton]; unfold k0_part6_skel
  refine framed (arrive_step m ρ K c 6 (by decide)) ?_
  refine framed (arrive_step m ρ K c 7 (by decide)) ?_
  refine framed (arrive_step m ρ K c 8 (by decide)) ?_
  refine framed (arrive_step m ρ K c 9 (by decide)) ?_
  refine framed (arrive_step m ρ K c 10 (by decide)) ?_
  refine framed (arrive_step m ρ K c 11 (by decide)) ?_
  rw [Prog.pure_eq_ret, wp_ret]
  exact hQ.trans (fupd_intro (PROP := sProp 𝕄))

/-- The value device `c` leaves in the result's buffer. -/
def outAt : (cc0_stg1_0 : Ref sig .tc).ty.Contents (Elt F) := k0_pay4 (ownWord c) (gath m ρ) (k0_pay1 (xstg m ρ c))

/-- What part 7 needs besides the waits: the running sums, the credit and the place to wait for the sent copies with, and the device's own slot. -/
def adding : sProp 𝕄 :=
  iprop(summed m ρ c ∗ atPos ER (kcell (c, 1)) 0 ∅ 0 ∗ ∃ f, slotPts c c f)

/-- What it leaves besides the waits: the result, the gather buffer, and the receive cell past its round. -/
def added : sProp 𝕄 :=
  iprop((((c : Thread nD τ).loc cc0_stg1_0) ↦{fullShare} outAt m ρ c) ∗ (∃ f, ((c : Thread nD τ).loc cc0_scratch1) ↦{fullShare} f)
    ∗ atPos ER (kcell (c, 2)) 1 ∅ 0)

set_option maxRecDepth 65536 in
set_option maxHeartbeats 1600000 in
/-- Part 7: the last three arrivals, the totals of the devices before added to the running sums, and the first wait for a copy sent. -/
theorem part7 {R : sProp 𝕄} {Q : PUnit → sProp 𝕄} (v w : BitVec 32) (hQ : iprop(recs m ρ K ∗ waiting m ρ 1 c 1 ∗ added m ρ c ∗ R) ⊢ Q ⟨⟩) :
    iprop(recs m ρ K ∗ waiting m ρ 2 c 12 ∗ adding m ρ c ∗ R) ⊢ wp frame (wpE (defs₀ (F := F)) 𝒱₀ (c : Thread nD τ) none) Set.univ
      (k0_part7 xM (Memref.isWhole_whole _) oM (Memref.isWhole_whole _) tM (Memref.isWhole_whole _) gM (Memref.isWhole_whole _)
        cc0_scratch2 cc0_scratch3 (ownWord c) v w) Q := by
  rw [k0_part7_eq_skeleton]; unfold k0_part7_skel
  refine framed (arrive_step m ρ K c 12 (by decide)) ?_
  refine framed (arrive_step m ρ K c 13 (by decide)) ?_
  refine framed (arrive_last m ρ K c) ?_
  unfold waited adding summed
  iintro ⟨#Hrec, ⟨HO, Hat2, Hslots⟩, ⟨⟨Ho, Hcr⟩, Hat1, ⟨%f, Hown⟩⟩, HR⟩
  ihave Hg := (gather_join m ρ c f) $$ [Hslots Hown]
  · isplitl [Hslots]; · iexact Hslots
    iexact Hown
  iapply (load_all c off3_zero _) $$ Hg; iintro Hg
  iapply (load_all c off2_zero _) $$ Ho; iintro Ho
  iapply (load_all c off2_zero _) $$ Ho; iintro Ho
  iapply (store_all c off2_zero _ _) $$ Ho; iintro Ho
  ihave Hw := (waiting_start m ρ c 1) $$ [HO Hat1 Hcr]
  · isplitl [HO]; · iexact HO
    isplitl [Hat1]; · iexact Hat1
    iexact Hcr
  iapply (leave_step m ρ K c 0 (by decide)) $$ [Hw]
  · isplitr; · iexact Hrec
    iexact Hw
  iintro Hw
  rw [Prog.pure_eq_ret, wp_ret]; imodintro
  iapply hQ
  isplitr; · iexact Hrec
  isplitl [Hw]; · iexact Hw
  isplitl [Ho Hg Hat2]
  · unfold added outAt
    isplitl [Ho]; · rw [← sum_masks m ρ c f]; iexact Ho
    isplitl [Hg]; · iexists _; iexact Hg
    iexact Hat2
  iexact HR

/-! ## Waiting for the copies sent -/

set_option maxRecDepth 65536 in
set_option maxHeartbeats 1600000 in
/-- Part 8: seven waits for a copy sent. -/
theorem part8 {R : sProp 𝕄} {Q : PUnit → sProp 𝕄} (hQ : iprop(recs m ρ K ∗ waiting m ρ 1 c 8 ∗ R) ⊢ Q ⟨⟩) :
    iprop(recs m ρ K ∗ waiting m ρ 1 c 1 ∗ R) ⊢ wp frame (wpE (defs₀ (F := F)) 𝒱₀ (c : Thread nD τ) none) Set.univ
      (k0_part8 xM (Memref.isWhole_whole _) oM (Memref.isWhole_whole _) tM (Memref.isWhole_whole _) gM (Memref.isWhole_whole _)
        cc0_scratch2 cc0_scratch3) Q := by
  rw [k0_part8_eq_skeleton]; unfold k0_part8_skel
  refine framed (leave_step m ρ K c 1 (by decide)) ?_
  refine framed (leave_step m ρ K c 2 (by decide)) ?_
  refine framed (leave_step m ρ K c 3 (by decide)) ?_
  refine framed (leave_step m ρ K c 4 (by decide)) ?_
  refine framed (leave_step m ρ K c 5 (by decide)) ?_
  refine framed (leave_step m ρ K c 6 (by decide)) ?_
  refine framed (leave_step m ρ K c 7 (by decide)) ?_
  rw [Prog.pure_eq_ret, wp_ret]
  exact hQ.trans (fupd_intro (PROP := sProp 𝕄))

end Cert.KernelIdeal.Scan

end
-- ==== Proof.KernelIdeal.Body.lean ====
/-
The kernel's body as a whole: its nine parts one after another, from what a device is launched with to what it leaves.
-/
module

public import proofs.«01_k».proof.Proof.KernelIdeal.Waits

@[expose] public section

noncomputable section

namespace Cert.KernelIdeal.Scan

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 3 → ℕ) (c : Dev nD)

/-- What part 3 and the later parts find besides the signals and the two buffers: the tokens for the copies, the credits,
    the three places, the levels, the result's buffer and the device's own slot. -/
def later : sProp 𝕄 :=
  iprop((bigSep (Finset.univ.erase c) fun j => dutyTok ER (kcell (j, 2)) 0 c)
    ∗ (bigSep (Finset.univ.erase c) fun j => dutyTok ER (kcell (c, 1)) 0 j)
    ∗ cred (tallyAt (kcell (c, 0)) () 15) ∗ atPos ER (kcell (c, 0)) 0 ∅ 0 ∗ levAts L lv
    ∗ receiving c ∗ atPos ER (kcell (c, 1)) 0 ∅ 0 ∗ ∃ f, slotPts c c f)

/-- What a device's body starts from, besides the records of the cells. -/
def before : sProp 𝕄 := iprop(signalling c 0 ∗ twoBufs m ρ c (later c))

/-- What it ends with: nothing owed, the block and the result in their buffers, the two scratch buffers, and the three
    cells closed at zero. -/
def done : sProp 𝕄 :=
  iprop((∃ W, owes (c : Thread nD τ) 0 W) ∗ (((c : Thread nD τ).loc cc0_stg0_0) ↦{fullShare} xstg m ρ c)
    ∗ (((c : Thread nD τ).loc cc0_stg1_0) ↦{fullShare} outAt m ρ c)
    ∗ ((∃ f, ((c : Thread nD τ).loc cc0_scratch0) ↦{fullShare} f) ∗ ∃ f, ((c : Thread nD τ).loc cc0_scratch1) ↦{fullShare} f)
    ∗ semVal (kcell (c, 0)) 0 ∗ semVal (kcell (c, 1)) 0 ∗ semVal (kcell (c, 2)) 0)

/-- The block's staging buffer and what waits for the end. -/
abbrev heldX : sProp 𝕄 := iprop(((c : Thread nD τ).loc cc0_stg0_0) ↦{fullShare} xstg m ρ c)

/-- From the signals to the barrier. -/
theorem to_meeting :
    iprop(recs m ρ K ∗ signalling c 16 ∗ twoBufs m ρ c (later c))
      ⊢ iprop(recs m ρ K ∗ (meeting c ∗ (∃ f, ((c : Thread nD τ).loc cc0_scratch0) ↦{fullShare} f))
        ∗ receiving c ∗ (atPos ER (kcell (c, 1)) 0 ∅ 0 ∗ ∃ f, slotPts c c f) ∗ heldX m ρ c) := by
  unfold later meeting
  iintro ⟨#Hrec, Hs, Hx, Ht, Ht2, Ht1, Hcr, Hat, #Hlev, Hrecv, Hat1, Hown⟩
  isplitr; · iexact Hrec
  isplitr [Hx Hrecv Hat1 Hown]
  · isplitr [Ht]
    · isplitl [Hs]; · iexact Hs
      isplitl [Ht2]; · iexact Ht2
      isplitl [Ht1]; · iexact Ht1
      isplitl [Hcr]; · iexact Hcr
      isplitl [Hat]; · iexact Hat
      iexact Hlev
    iexact Ht
  isplitl [Hrecv]; · iexact Hrecv
  isplitl [Hat1 Hown]
  · isplitl [Hat1]; · iexact Hat1
    iexact Hown
  iexact Hx

/-- A frame's two leading parts exchanged. -/
theorem swap_frame (A B C D E : sProp 𝕄) : iprop(A ∗ B ∗ C ∗ D ∗ E) ⊢ iprop(A ∗ B ∗ D ∗ C ∗ E) := by
  iintro ⟨HA, HB, HC, HD, HE⟩
  isplitl [HA]; · iexact HA
  isplitl [HB]; · iexact HB
  isplitl [HD]; · iexact HD
  isplitl [HC] <;> iassumption

/-- From the running sums to the sum of the totals. -/
theorem to_adding (A B M X : sProp 𝕄) :
    iprop(A ∗ B ∗ summed m ρ c ∗ M ∗ (atPos ER (kcell (c, 1)) 0 ∅ 0 ∗ ∃ f, slotPts c c f) ∗ X) ⊢ iprop(A ∗ B ∗ adding m ρ c ∗ M ∗ X) := by
  unfold adding
  iintro ⟨HA, HB, HS, HM, Hat, HX⟩
  isplitl [HA]; · iexact HA
  isplitl [HB]; · iexact HB
  isplitl [HS Hat]
  · isplitl [HS]; · iexact HS
    iexact Hat
  isplitl [HM] <;> iassumption

/-- The end: the totals buffer whole again and the three cells closed. -/
theorem close_all : iprop(recs m ρ K ∗ waited m ρ 1 c ∗ added m ρ c ∗ met m ρ c ∗ heldX m ρ c) ⊢ (|={Set.univ}=> done m ρ c : sProp 𝕄) := by
  unfold waited added met done
  iintro ⟨#Hrec, ⟨HO, Hat1, Hshares⟩, ⟨Hout, Hg, Hat2⟩, ⟨Hat0, Hown⟩, Hx⟩
  ihave ⟨#Hi0, -⟩ := (recs_cell m ρ K (c, 0)) $$ Hrec
  ihave ⟨#Hi1, -⟩ := (recs_cell m ρ K (c, 1)) $$ Hrec
  ihave ⟨#Hi2, -⟩ := (recs_cell m ρ K (c, 2)) $$ Hrec
  imod (Rounds.cell_close ER (sched m ρ) (Set.mem_univ (K (c, 0))) (fun h => h) (R := 1) (duties_later m ρ (kcell (c, 0)))) $$ [Hat0] with Hz0
  · isplitr; · iexact Hi0
    iexact Hat0
  imod (Rounds.cell_close ER (sched m ρ) (Set.mem_univ (K (c, 1))) (fun h => h) (R := 1) (duties_later m ρ (kcell (c, 1)))) $$ [Hat1] with Hz1
  · isplitr; · iexact Hi1
    iexact Hat1
  imod (Rounds.cell_close ER (sched m ρ) (Set.mem_univ (K (c, 2))) (fun h => h) (R := 1) (duties_later m ρ (kcell (c, 2)))) $$ [Hat2] with Hz2
  · isplitr; · iexact Hi2
    iexact Hat2
  imodintro
  isplitl [HO]; · iexact HO
  isplitl [Hx]; · iexact Hx
  isplitl [Hout]; · iexact Hout
  isplitl [Hg Hshares Hown]
  · isplitl [Hshares Hown]
    · iexists (totals m ρ c)
      rw [totals_shares, ← Finset.insert_erase (Finset.mem_univ c), sep_insert (Finset.notMem_erase c _), Finset.erase_insert (Finset.notMem_erase c _)]
      isplitl [Hown]; · iexact Hown
      iexact Hshares
    iexact Hg
  isplitl [Hz0]; · iexact Hz0
  isplitl [Hz1]; · iexact Hz1
  iexact Hz2

set_option maxRecDepth 65536 in
set_option maxHeartbeats 3200000 in
/-- The kernel's body, part after part. -/
theorem body_run (Q : PUnit → sProp 𝕄) (hQ : done m ρ c ⊢ Q ⟨⟩) :
    iprop(recs m ρ K ∗ before m ρ c) ⊢ wp frame (wpE (defs₀ (F := F)) 𝒱₀ (c : Thread nD τ) none) Set.univ
      (cc0_body xM (Memref.isWhole_whole _) oM (Memref.isWhole_whole _) tM (Memref.isWhole_whole _) gM (Memref.isWhole_whole _)
        cc0_scratch2 cc0_scratch3) Q := by
  rw [cc0_body_eq_skeleton]; unfold cc0_body_skel
  rw [k0_part9_eq_skeleton]; unfold k0_part9_skel before
  rw [wp_bind, wp_bind]
  refine part1 m ρ K c ?_
  rw [wp_bind]
  refine part2 m ρ K c ?_
  rw [wp_bind]
  refine (to_meeting m ρ K c).trans (part3 m ρ K c ?_)
  rw [wp_bind]
  refine (swap_frame _ _ _ _ _).trans (part4 m ρ K c _ ?_)
  rw [wp_bind]
  refine part5 m ρ K c _ ?_
  rw [wp_bind]
  refine part6 m ρ K c ?_
  rw [wp_bind]
  refine (to_adding m ρ c _ _ _ _).trans (part7 m ρ K c _ _ ?_)
  rw [wp_bind]
  refine part8 m ρ K c ?_
  refine framed (leave_step m ρ K c 8 (by decide)) ?_
  refine framed (leave_step m ρ K c 9 (by decide)) ?_
  refine framed (leave_step m ρ K c 10 (by decide)) ?_
  refine framed (leave_step m ρ K c 11 (by decide)) ?_
  refine framed (leave_step m ρ K c 12 (by decide)) ?_
  refine framed (leave_step m ρ K c 13 (by decide)) ?_
  refine framed (leave_last m ρ K c) ?_
  refine (close_all m ρ K c).trans ?_
  rw [Prog.pure_eq_ret, wp_ret, wp_ret]
  iintro >H
  imodintro; imodintro
  iapply hQ; iexact H

end Cert.KernelIdeal.Scan

end
-- ==== Proof.KernelIdeal.Launch.lean ====
/-
The launch: what the sixteen devices are dealt, the body's obligation to the pipeline, and the run of the whole program.
-/
module

public import proofs.«01_k».proof.Proof.KernelIdeal.Body
public import Idealize.ShloMosaic.Lib.Pipeline.CollectiveSegs

@[expose] public section

noncomputable section

namespace Cert.KernelIdeal.Scan

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- What device `c` holds of the protocol when its body starts, the cells' records at the names `K` among it. -/
def ghost (K : Dev nD × Fin 3 → ℕ) (c : Dev nD) : sProp 𝕄 :=
  iprop(recs m ρ K ∗ (atPos ER (kcell (c, 0)) 0 ∅ 0 ∗ atPos ER (kcell (c, 1)) 0 ∅ 0 ∗ atPos ER (kcell (c, 2)) 0 ∅ 0)
    ∗ (bigSep (Finset.univ.erase c) fun j => dutyTok ER (kcell (j, 0)) 0 c)
    ∗ (bigSep (Finset.univ.erase c) fun j => dutyTok ER (kcell (c, 1)) 0 j)
    ∗ (bigSep (Finset.univ.erase c) fun j => dutyTok ER (kcell (j, 2)) 0 c))

/-- With it come the credits of its barrier cell and of its receive cell, and the levels. -/
def start (c : Dev nD) : sProp 𝕄 :=
  iprop((∃ K, ghost m ρ K c) ∗ (cred (tallyAt (kcell (c, 0)) () 15) ∗ cred (tallyAt (kcell (c, 2)) () (15 * N))) ∗ levAts L lv)

/-- The two scratch buffers at any contents. -/
def scratch (c : Dev nD) : sProp 𝕄 :=
  iprop((∃ f, ((c : Thread nD τ).loc cc0_scratch0) ↦{fullShare} f) ∗ ∃ f, ((c : Thread nD τ).loc cc0_scratch1) ↦{fullShare} f)

def Φ₀ (c : Dev nD) : sProp 𝕄 := iprop(start m ρ c ∗ scratch c)
def Φ₁ (c : Dev nD) : sProp 𝕄 :=
  iprop(scratch c ∗ semVal (kcell (c, 0)) 0 ∗ semVal (kcell (c, 1)) 0 ∗ semVal (kcell (c, 2)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at the contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body's obligation -/

/-- What the pipeline calls the body with, -/
def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
/-- and what it wants back. -/
def bodyPost (c : Dev nD) : sProp 𝕄 :=
  iprop(Φ₁ c ∗ (dats m ρ 0 c).owesAt () t0_0.succ ∗ stg c cc0_stg0_0 (xstg m ρ c) ∗ stg c cc0_stg1_0 (outAt m ρ c))

omit [FloatOps F] in
theorem slot_any (c d : Dev nD) (g : Buf (Elt F) ((c : Thread nD τ).loc cc0_scratch1)) :
    (slotPts c d g : sProp 𝕄) ⊢ iprop(∃ f, slotPts c d f) := by
  iintro H; iexists g; iexact H

/-- The body's own precondition from the pipeline's. -/
theorem pre_before (c : Dev nD) : bodyPre m ρ c ⊢ iprop(∃ K, recs m ρ K ∗ before m ρ c) := by
  unfold bodyPre Φ₀ start ghost scratch before later signalling twoBufs receiving
  iintro ⟨⟨⟨⟨%K, #Hrec, ⟨Ha0, Ha1, Ha2⟩, Ht0, Ht1, Ht2⟩, ⟨Hc0, Hc2⟩, #Hlev⟩, Hs0, ⟨%g, Hs1⟩⟩, Ho, ⟨%d0, %g0, %hg0, Hx⟩, ⟨%d1, %g1, %hg1, Hout⟩⟩
  have hx : g0 = xstg m ρ c := by rw [hg0]; unfold Dat.before; rw [if_pos (show (cfg0.win (0 : Fin 2)).fetch t0_0 = true from rfl)]; rfl
  subst hx
  unfold Dat.owesAt Pipeline.owesWithin
  icases Ho with ⟨%W, %hW, HO⟩
  rw [show (dats m ρ 0 c).owed t0_0.castSucc = O₀ c from rfl]
  ihave Hs1 := (Entails.of_eq ((gather_slots c g).trans ((congrArg (fun s => bigSep s fun d => slotPts c d g)
    (Finset.insert_erase (Finset.mem_univ c)).symm).trans (sep_insert (Finset.notMem_erase c _))))) $$ Hs1
  icases Hs1 with ⟨Hown, Hslots⟩
  ihave Hslots := (show (bigSep (Finset.univ.erase c) fun d => slotPts c d g) ⊢ bigSep (Finset.univ.erase c) fun d => iprop(∃ f, slotPts c d f) from
    bigSep_mono fun d _ => slot_any c d g) $$ Hslots
  iexists K
  isplitr; · iexact Hrec
  isplitl [HO Ht0 Hslots]
  · rw [rest_zero]
    isplitl [HO]; · iexists W; unfold O₀; iexact HO
    rw [sep_pairs]
    isplitl [Ht0]; · iexact Ht0
    iexact Hslots
  isplitl [Hx]; · iexact Hx
  isplitl [Hs0]; · iexact Hs0
  isplitl [Ht2]; · iexact Ht2
  isplitl [Ht1]; · iexact Ht1
  isplitl [Hc0]; · iexact Hc0
  isplitl [Ha0]; · iexact Ha0
  isplitr; · iexact Hlev
  isplitl [Hout Hc2 Ha2]
  · isplitl [Hout]; · iexists g1; iexact Hout
    isplitl [Hc2]; · iexact Hc2
    iexact Ha2
  isplitl [Ha1]; · iexact Ha1
  iexists g; iexact Hown

/-- And the pipeline's postcondition from the body's. -/
theorem done_post (c : Dev nD) : done m ρ c ⊢ bodyPost m ρ c := by
  unfold bodyPost Φ₁ done scratch Dat.owesAt Pipeline.owesWithin
  rw [show (dats m ρ 0 c).owed t0_0.succ = 0 from rfl]
  iintro ⟨⟨%W, HO⟩, Hx, Hout, Hs, Hz⟩
  isplitl [Hs Hz]
  · isplitl [Hs]; · iexact Hs
    iexact Hz
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_buf]
  show bodyPre m ρ c ⊢ wp frame (wpE (defs₀ (F := F)) 𝒱₀ c none) Set.univ
    (cc0_body xM (Memref.isWhole_whole _) oM (Memref.isWhole_whole _) tM (Memref.isWhole_whole _) gM (Memref.isWhole_whole _)
      cc0_scratch2 cc0_scratch3) (fun _ => bodyPost m ρ c)
  iintro H
  ihave H := (pre_before m ρ c) $$ H
  icases H with ⟨%K, H⟩
  iapply (body_run m ρ K c (fun _ => bodyPost m ρ c) (done_post m ρ c)) $$ H

/-! ## What the launch deals -/

theorem ownSemFacts : Pipeline.OwnSemFacts cfg0.spec osem := by decide

theorem share_eq (c : Dev nD) (w : Fin cfg0.W) : (dats m ρ 0 c).share w = fullShare := by unfold Dat.share; split <;> rfl

theorem kcell_iff {a b : Dev nD} {k l : Fin 3} : kcell (a, k) = kcell (b, l) ↔ a = b ∧ k = l := by
  refine ⟨fun h => ⟨congrArg (fun g : GSem nD τ sig => g.1.1) h, ?_⟩, fun h => by rw [h.1, h.2]⟩
  have h2 : csem k = csem l := congrArg Prod.snd h
  exact (by decide : ∀ k l : Fin 3, csem k = csem l → k = l) k l h2
theorem kcell_injective : Function.Injective (kcell : Dev nD × Fin 3 → GSem nD τ sig) :=
  fun ⟨_, _⟩ ⟨_, _⟩ h => Prod.ext (kcell_iff.mp h).1 (kcell_iff.mp h).2

def protoCells : Finset (GSem nD τ sig) := Finset.univ.map ⟨kcell, kcell_injective⟩

/-- A duty's token as minted: which cell, and which device's duty. -/
abbrev tokOf (x : (Dev nD × Fin 3) × Dev nD) : GSem nD τ sig × ℕ × Dev nD := (kcell x.1, 0, x.2)
theorem tokOf_injective : Function.Injective (tokOf : (Dev nD × Fin 3) × Dev nD → GSem nD τ sig × ℕ × Dev nD) :=
  fun _ _ h => Prod.ext (kcell_injective (congrArg Prod.fst h)) (congrArg (fun y => y.2.2) h)
def protoToks : Finset (GSem nD τ sig × ℕ × Dev nD) := Finset.univ.map ⟨tokOf, tokOf_injective⟩

def u₀ : UU := (initOf (Pipeline.cells cfgs cellOf_inj) (Pipeline.launchToks cfgs cellOf_inj), initOf protoCells protoToks)

/-- The duty tokens of device `c`'s own three cells. -/
def toks (c : Dev nD) : sProp 𝕄 := bigSep Finset.univ fun k : Fin 3 => bigSep Finset.univ fun d : Dev nD => dutyTok ER (kcell (c, k)) 0 d

/-- What the launch element deals device `c`. -/
def G (c : Dev nD) : sProp 𝕄 :=
  iprop((bigSep Finset.univ fun k : Fin 3 => roundState ER (sched m ρ) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem sep_fin3 (Φ : Fin 3 → sProp 𝕄) : bigSep Finset.univ Φ = iprop(Φ 0 ∗ Φ 1 ∗ Φ 2) :=
  bigSep_univ_eq_bigSepL [0, 1, 2] (by decide) (by decide) Φ

theorem fund_proto : BI.own (ER (initOf protoCells protoToks)) ⊢ (|==> bigSep Finset.univ (G m ρ) : sProp 𝕄) := by
  have hX (Φ : GSem nD τ sig → sProp 𝕄) : bigSep protoCells Φ = bigSep Finset.univ fun c : Dev nD => bigSep Finset.univ fun k : Fin 3 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks toks; rw [bigSep_map, bigSep_univ_prod, bigSep_univ_prod]; rfl
  iintro HX
  imod (Rounds.fund ER (sched m ρ) protoCells protoToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

omit [FloatOps F] in
theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0) := by
  rw [Pipeline.ownSems0_eq_of_list c osem [0, 1] (by decide) (by decide)]; rfl
omit [FloatOps F] in
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, sep_fin3]
  iintro ⟨⟨HS, HV⟩, HB⟩
  isplitl [HB]; · iexact HB
  isplitl [HS] <;> iassumption

/-- One device's cells put under their invariants. -/
theorem cells_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens go to the devices that pay the duties -/

/-- Device `c`'s places and the tokens of the duties it pays. -/
def dealt (c : Dev nD) : sProp 𝕄 :=
  iprop((atPos ER (kcell (c, 0)) 0 ∅ 0 ∗ atPos ER (kcell (c, 1)) 0 ∅ 0 ∗ atPos ER (kcell (c, 2)) 0 ∅ 0)
    ∗ (bigSep (Finset.univ.erase c) fun j => dutyTok ER (kcell (j, 0)) 0 c)
    ∗ (bigSep (Finset.univ.erase c) fun j => dutyTok ER (kcell (c, 1)) 0 j)
    ∗ (bigSep (Finset.univ.erase c) fun j => dutyTok ER (kcell (j, 2)) 0 c))

omit [FloatOps F] in
/-- Tokens `(a, b)` held by `a` are, exchanged, held by `b`; a device's token for itself is not needed. -/
theorem toks_exchange (Φ : Dev nD → Dev nD → sProp 𝕄) :
    (bigSep Finset.univ fun c : Dev nD => bigSep Finset.univ fun d : Dev nD => Φ c d)
      ⊢ bigSep Finset.univ fun d : Dev nD => bigSep (Finset.univ.erase d) fun c : Dev nD => Φ c d := by
  rw [BI.bigSep_univ_comm]
  exact bigSep_mono fun d _ => bigSep_subset (Finset.erase_subset d _)

omit [FloatOps F] in
theorem toks_dealt : (bigSep Finset.univ fun c : Dev nD => (toks c : sProp 𝕄))
    ⊢ bigSep Finset.univ fun c : Dev nD => iprop((bigSep (Finset.univ.erase c) fun j => dutyTok ER (kcell (j, 0)) 0 c)
      ∗ (bigSep (Finset.univ.erase c) fun j => dutyTok ER (kcell (c, 1)) 0 j)
      ∗ (bigSep (Finset.univ.erase c) fun j => dutyTok ER (kcell (j, 2)) 0 c)) := by
  unfold toks
  rw [bigSep_congr (s := Finset.univ) (fun (c : Dev nD) _ => sep_fin3 fun k : Fin 3 => bigSep Finset.univ fun d : Dev nD => dutyTok ER (kcell (c, k)) 0 d),
    bigSep_sep', bigSep_sep', bigSep_sep', bigSep_sep']
  iintro ⟨H0, H1, H2⟩
  isplitl [H0]; · iapply (toks_exchange (F := F) fun c d => dutyTok ER (kcell (c, 0)) 0 d); iexact H0
  isplitl [H1]
  · iapply (show (bigSep Finset.univ fun c : Dev nD => bigSep Finset.univ fun d : Dev nD => (dutyTok ER (kcell (c, 1)) 0 d : sProp 𝕄))
      ⊢ bigSep Finset.univ fun c : Dev nD => bigSep (Finset.univ.erase c) fun d : Dev nD => dutyTok ER (kcell (c, 1)) 0 d from
        bigSep_mono fun c _ => bigSep_subset (Finset.erase_subset c _))
    iexact H1
  iapply (toks_exchange (F := F) fun c d => dutyTok ER (kcell (c, 2)) 0 d); iexact H2

omit [FloatOps F] in
/-- Places and tokens side by side, device by device. -/
theorem dealt_join :
    iprop((bigSep Finset.univ fun c : Dev nD => bigSep Finset.univ fun k : Fin 3 => (atPos ER (kcell (c, k)) 0 ∅ 0 : sProp 𝕄))
      ∗ bigSep Finset.univ fun c : Dev nD => iprop((bigSep (Finset.univ.erase c) fun j => dutyTok ER (kcell (j, 0)) 0 c)
        ∗ (bigSep (Finset.univ.erase c) fun j => dutyTok ER (kcell (c, 1)) 0 j)
        ∗ (bigSep (Finset.univ.erase c) fun j => dutyTok ER (kcell (j, 2)) 0 c)))
      ⊢ bigSep Finset.univ fun c : Dev nD => (dealt c : sProp 𝕄) :=
  (Entails.of_eq (bigSep_sep' Finset.univ _ _).symm).trans (bigSep_mono fun c _ => show _ ⊢ dealt c from Entails.of_eq (by unfold dealt; rw [sep_fin3]))

/-- What every device holds of the records, with what is its own. -/
theorem ghost_intro (K : Dev nD × Fin 3 → ℕ) (c : Dev nD) : iprop(recs m ρ K ∗ dealt c) ⊢ G' m ρ c := by
  unfold dealt G' ghost
  iintro ⟨Hr, H⟩
  iexists K
  isplitl [Hr]; · iexact Hr
  iexact H

omit [FloatOps F] in
/-- A persistent fact goes to every part of a product. -/
theorem sep_with {R : sProp 𝕄} [BI.Persistent R] {Φ Ψ : Dev nD → sProp 𝕄}
    (h : ∀ i, iprop(R ∗ Φ i) ⊢ Ψ i) : iprop(R ∗ bigSep Finset.univ Φ) ⊢ bigSep Finset.univ Ψ :=
  (sep_mono_left (BI.bigSep_of_persistent Finset.univ R)).trans (by rw [← bigSep_sep']; exact bigSep_mono fun i _ => h i)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (sched m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (sched m ρ) κ (kcell ck) : sProp 𝕄))) $$ HI
  icases HK with ⟨%K, #HI⟩
  ihave Htk := (toks_dealt (F := F)) $$ Htok
  iapply (sep_with (R := recs m ρ K) fun c => ghost_intro m ρ K c)
  isplitr
  · unfold recs; rw [bigSep_sep']
    isplitl; · iexact HI
    iexact HR
  · iapply (dealt_join (F := F))
    isplitl [Hat]; · iexact Hat
    iexact Htk

/-- The step the launch takes over all devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => cells_alloc m ρ c).trans (bigSep_fupd _ _)).trans (BI.fupd_mono (regroup m ρ))

/-! ## The credit at launch -/

/-- What is due to a cell. -/
theorem due_at (k l : Fin 3) (A : Finset (Dev nD)) (c : Dev nD) : due k A (kcell (c, l)) () = if l = k ∧ c ∈ A then unitOf k else 0 := by
  induction A using Finset.induction_on with
  | empty => exact (if_neg fun h => absurd h.2 (Finset.notMem_empty c)).symm
  | insert j A hj ih =>
    rw [due_insert hj, Pi.add_apply, Finsupp.add_apply, tallyAt_apply, ih]
    by_cases hl : l = k
    · subst hl
      by_cases hc : c = j
      · subst hc
        rw [if_neg fun h => hj h.2, if_pos ⟨rfl, rfl⟩, if_pos ⟨rfl, Finset.mem_insert_self _ _⟩, Nat.zero_add]
      · rw [if_neg (fun h : kcell (c, l) = kcell (j, l) ∧ _ => hc (kcell_iff.mp h.1).1), Nat.add_zero]
        exact if_congr (by rw [Finset.mem_insert]; exact ⟨fun h => ⟨h.1, .inr h.2⟩, fun h => ⟨h.1, h.2.resolve_left hc⟩⟩) rfl rfl
    · rw [if_neg (fun h => hl h.1), if_neg (fun h : kcell (c, l) = kcell (j, k) ∧ _ => hl (kcell_iff.mp h.1).2), if_neg (fun h => hl h.1)]

/-- Every device but one counts: fifteen. -/
theorem fifteen (c : Dev nD) (n : ℕ) : (∑ d : Dev nD, if c ∈ Finset.univ.erase d then n else 0) = 15 * n := by
  rw [← Finset.sum_filter, Finset.sum_const, smul_eq_mul]
  congr 1
  exact (by decide +kernel : ∀ c : Fin 16, (Finset.univ.filter fun d : Fin 16 => c ∈ Finset.univ.erase d).card = 15) c

theorem launch_cell (c : Dev nD) (k : Fin 3) (h : ∀ d, O₀ d (kcell (c, k)) () = if c ∈ Finset.univ.erase d then unitOf k else 0) :
    tallyOn (kcell (c, k)) (launchCredit (Pipeline.owing O₀) 0 (kcell (c, k))) = (tallyAt (kcell (c, k)) () (15 * unitOf k) : CellTallies nD τ sig Unit) := by
  unfold tallyAt; refine congrArg _ (Finsupp.ext fun u => ?_); cases u
  rw [Pipeline.launchCredit_owing, Finsupp.single_eq_same, Finset.sum_congr rfl fun d _ => h d, fifteen]

theorem owed_cell (c d : Dev nD) (k : Fin 3) (hk : k ≠ 1) : O₀ d (kcell (c, k)) () = if c ∈ Finset.univ.erase d then unitOf k else 0 := by
  unfold O₀
  rw [Pi.add_apply, Finsupp.add_apply, due_at, due_at]
  rcases (by decide : ∀ k : Fin 3, k ≠ 1 → k = 0 ∨ k = 2) k hk with rfl | rfl
  · rw [if_neg (fun h => absurd h.1 (by decide)), Nat.zero_add]
    exact if_congr ⟨fun h => h.2, fun h => ⟨rfl, h⟩⟩ rfl rfl
  · rw [if_neg (c := (2 : Fin 3) = 0 ∧ _) (fun h => absurd h.1 (by decide)), Nat.add_zero]
    exact if_congr ⟨fun h => h.2, fun h => ⟨rfl, h⟩⟩ rfl rfl

omit [FloatOps F] in
theorem creds (c : Dev nD) :
    (Pipeline.launchCred O₀ c : sProp 𝕄) ⊢ iprop(cred (tallyAt (kcell (c, 0)) () 15) ∗ cred (tallyAt (kcell (c, 2)) () (15 * N))) := by
  have h0 := launch_cell c 0 fun d => owed_cell c d 0 (by decide)
  have h2 := launch_cell c 2 fun d => owed_cell c d 2 (by decide)
  rw [unitOf_bar, Nat.mul_one] at h0
  rw [unitOf_recv] at h2
  unfold Pipeline.launchCred
  rw [bigSep_univ_at _ (SemLoc.reg barS), show tallyOn ((c : Thread nD τ), SemLoc.reg barS) _ = _ from h0]
  refine sep_mono_right ?_
  rw [← h2]
  exact bigSep_elim (Finset.mem_erase.mpr ⟨recv_ne_bar, Finset.mem_univ _⟩)

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch
  iintro ⟨Hr, Hz0, Hz1, Hz2⟩
  isplitl [Hz0]; · iexact Hz0
  isplitl [Hz1 Hz2]
  · isplitl [Hz1] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What the run leaves in a window's array. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory, with every counter at zero, every fair execution on the sixteen devices ends, each device's arrays at
    the contents above and every counter at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_proto m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array holds what it held. -/
theorem finalA_x (c : Dev nD) : finalA m ρ c (0 : Fin 2) = m ((c : Thread nD τ).loc main_arg0) :=
  (dats (F := F) m ρ 0 c).arrAt_in (0 : Fin 2) rfl _

end Cert.KernelIdeal.Scan

end
-- ==== Proof.Value.Prefix.lean ====
/-
The reference at the ideal values: its running sum down the 4096 rows, read at one element, is the sum of the column's entries up to that row;
and that sum cut into the devices' sixteen blocks of 256 rows.
-/
module

public import proofs.«01_k».proof.Proof.Gen.ReferenceIdeal.Run
public import Idealize.ShloMosaic.PureOps.Ideal.Laws
public import Idealize.ShloMosaic.Lib.ValueIdx

@[expose] public section

noncomputable section

namespace Cert.Value

open Idealize.ShloMosaic
open Idealize.ShloMosaic.ValueIdx
open scoped BigOperators

/-- The sum of column `j 1` of a matrix of 4096 rows over the rows up to `j 0`: what a running sum down the rows holds at `j`. -/
def prefixSum (X : (⟨2, ![4096, 256]⟩ : Shape).Idx → EReal) : (⟨2, ![4096, 256]⟩ : Shape).Idx → EReal :=
  fun j => ∑ k : Fin 4096, if k.val ≤ (j 0).val then X (ix2 k (j 1)) else 0

/-- Adding the entries of a list one at a time to a start is the start plus the entries' sum. -/
theorem foldl_add_list {ι M : Type} [AddCommMonoid M] (g : ι → M) (l : List ι) (v : M) :
    l.foldl (fun r n => r + g n) v = v + (l.map g).sum := by
  induction l generalizing v with
  | nil => simp
  | cons a l ih => rw [List.foldl_cons, ih, List.map_cons, List.sum_cons, add_assoc]

/-- A window of 4096 rows that ends at row `R`, its overhang padded with zeros, sums the rows up to `R`. -/
theorem window_rows {M : Type} [AddCommMonoid M] (R : ℕ) (hR : R < 4096) (g : ℕ → M) :
    (∑ a : Fin 4096, if 4095 ≤ R + a.val then g (R + a.val - 4095) else 0) = ∑ k : Fin 4096, if k.val ≤ R then g k.val else 0 := by
  rw [← Finset.sum_filter, ← Finset.sum_filter]
  refine Finset.sum_nbij' (fun a => ⟨R + a.val - 4095, by have := a.isLt; omega⟩) (fun k => ⟨(4095 + k.val - R) % 4096, Nat.mod_lt _ (by omega)⟩) ?_ ?_ ?_ ?_ ?_
  · intro a ha
    have := (Finset.mem_filter.mp ha).2
    have := a.isLt
    exact Finset.mem_filter.mpr ⟨Finset.mem_univ _, by show R + a.val - 4095 ≤ R; omega⟩
  · intro k hk
    have := (Finset.mem_filter.mp hk).2
    have := k.isLt
    exact Finset.mem_filter.mpr ⟨Finset.mem_univ _, by show 4095 ≤ R + (4095 + k.val - R) % 4096; omega⟩
  · intro a ha
    have := (Finset.mem_filter.mp ha).2
    have := a.isLt
    exact Fin.ext (by show (4095 + (R + a.val - 4095) - R) % 4096 = a.val; omega)
  · intro k hk
    have := (Finset.mem_filter.mp hk).2
    have := k.isLt
    exact Fin.ext (by show R + (4095 + k.val - R) % 4096 - 4095 = k.val; omega)
  · intro a ha
    rfl

/-- A row of the matrix by its number: zero outside the matrix. -/
def rowOr (X : (⟨2, ![4096, 256]⟩ : Shape).Idx → EReal) (q : Fin 256) (n : ℕ) : EReal :=
  if h : n < 4096 then X (ix2 ⟨n, h⟩ q) else 0

/-- The printed window sum — a window of all 4096 rows, padded 4095 rows low, from zero — is the sum of the rows up to each row. -/
theorem windowAdd_prefix (X : (⟨2, ![4096, 256]⟩ : Shape).Idx → EReal)
    (h : (⟨2, ![4096, 256]⟩ : Shape).ReduceWindows ![4096, 1] ![1, 1] ![4095, 0] ![0, 0] ⟨2, ![4096, 256]⟩) :
    Ideal.hostReduceWindowAdd ![4096, 1] ![1, 1] ![4095, 0] ![0, 0] h X 0 = prefixSum X := by
  funext j
  unfold Ideal.hostReduceWindowAdd Host.reduceWindow
  dsimp only
  rw [foldl_add_list, zero_add, ← List.ofFn_eq_map, List.sum_ofFn,
    ← Equiv.sum_comp (Shape.rowMajor (⟨2, ![4096, 1]⟩ : Shape))]
  simp only [Equiv.symm_apply_apply]
  refine (sum_idx2 (n0 := 4096) (n1 := 1) _).trans ?_
  simp only [Fin.sum_univ_one]
  have hj0 : (j 0).val < 4096 := (j 0).isLt
  have hj1 : (j 1).val < 256 := (j 1).isLt
  refine (Finset.sum_congr rfl fun a _ => ?_).trans ((window_rows (j 0).val hj0 (rowOr X (j 1))).trans (Finset.sum_congr rfl fun k _ => ?_))
  · have ha := a.isLt
    by_cases hin : 4095 ≤ (j 0).val + a.val
    · rw [if_pos hin, dif_pos (by
        intro ax
        match ax with
        | ⟨0, _⟩ => show 4095 ≤ (j 0).val * 1 + a.val ∧ (j 0).val * 1 + a.val - 4095 < 4096; omega
        | ⟨1, _⟩ => show 0 ≤ (j 1).val * 1 + 0 ∧ (j 1).val * 1 + 0 - 0 < 256; omega)]
      unfold rowOr
      rw [dif_pos (by omega)]
      refine congrArg X (funext fun ax => Fin.ext ?_)
      match ax with
      | ⟨0, _⟩ => show (j 0).val * 1 + a.val - 4095 = (j 0).val + a.val - 4095; omega
      | ⟨1, _⟩ => show (j 1).val * 1 + 0 - 0 = (j 1).val; omega
    · rw [if_neg hin, dif_neg]
      intro hall
      have h0 : 4095 ≤ (j 0).val * 1 + a.val := (hall 0).1
      omega
  · unfold rowOr
    rw [dif_pos k.isLt]

/-- A word of zero bits is the number zero in the reference's format. -/
theorem zero_bf16 : Ideal.ofBits .bf16 0x0000#16 = 0 := by simp [Ideal.ofBits, Ideal.ieee]

/-- What the reference's run leaves in its result: the running sum of its argument. -/
theorem reference_value (X : FVec Ideal ⟨2, ![4096, 256]⟩ .bf16) (hb : (⟨0, ![]⟩ : Shape).BroadcastsInDim ⟨0, ![]⟩ (![] : Fin 0 → Fin 0))
    (hw : (⟨2, ![4096, 256]⟩ : Shape).ReduceWindows ![4096, 1] ![1, 1] ![4095, 0] ![0, 0] ⟨2, ![4096, 256]⟩)
    (hu : 0 < (⟨0, ![]⟩ : Shape).numel) (hf : FTy.bits .bf16 < FTy.bits .f32) :
    extf .f32 (Host.reduceWindowAdd ![4096, 1] ![1, 1] ![4095, 0] ![0, 0] X
      (broadcastInDim (s := ⟨0, ![]⟩) ⟨0, ![]⟩ ![] hb (constant (F := Ideal) ⟨0, ![]⟩ .bf16 0x0000#16)) hw hu) hf = prefixSum X := by
  unfold Host.reduceWindowAdd
  rw [Ideal.hostReduceWindowAdd_def]
  have hz : broadcastInDim (s := ⟨0, ![]⟩) ⟨0, ![]⟩ ![] hb (constant (F := Ideal) ⟨0, ![]⟩ .bf16 0x0000#16) (Shape.Idx.first hu) = 0 := zero_bf16
  rw [hz, windowAdd_prefix X hw]
  rfl

/-- A running sum at row `256 c + r` is the first `r + 1` rows of block `c` and the whole of every block before it. -/
theorem prefix_blocks (g : ℕ → EReal) (c : Fin 16) (r : ℕ) (hr : r < 256) :
    (∑ k : Fin 4096, if k.val ≤ c.val * 256 + r then g k.val else 0)
      = (∑ k : Fin 256, if k.val ≤ r then g (c.val * 256 + k.val) else 0)
        + ∑ d : Fin 16, if d.val < c.val then ∑ k : Fin 256, g (d.val * 256 + k.val) else 0 := by
  have hsplit : (∑ k : Fin 4096, if k.val ≤ c.val * 256 + r then g k.val else 0)
      = ∑ d : Fin 16, ∑ k : Fin 256, if d.val * 256 + k.val ≤ c.val * 256 + r then g (d.val * 256 + k.val) else 0 := by
    rw [← Fintype.sum_prod_type', ← Equiv.sum_comp (finProdFinEquiv (m := 16) (n := 256))]
    refine Finset.sum_congr rfl fun p _ => ?_
    have hv : (finProdFinEquiv p).val = p.1.val * 256 + p.2.val := by
      show p.2.val + 256 * p.1.val = _; omega
    rw [hv]
  have hcase : ∀ d : Fin 16, (∑ k : Fin 256, if d.val * 256 + k.val ≤ c.val * 256 + r then g (d.val * 256 + k.val) else 0)
      = (if d = c then ∑ k : Fin 256, if k.val ≤ r then g (c.val * 256 + k.val) else 0 else 0)
        + if d.val < c.val then ∑ k : Fin 256, g (d.val * 256 + k.val) else 0 := by
    intro d
    rcases Nat.lt_trichotomy d.val c.val with hlt | heq | hgt
    · rw [if_neg (fun e => by rw [e] at hlt; omega), if_pos hlt, zero_add]
      exact Finset.sum_congr rfl fun k _ => if_pos (by have := k.isLt; omega)
    · obtain rfl : d = c := Fin.ext heq
      rw [if_pos rfl, if_neg (by omega), add_zero]
      refine Finset.sum_congr rfl fun k _ => ?_
      simp only [Nat.add_le_add_iff_left]
    · rw [if_neg (fun e => by rw [e] at hgt; omega), if_neg (by omega), add_zero]
      exact Finset.sum_eq_zero fun k _ => if_neg (by omega)
  rw [hsplit, Finset.sum_congr rfl fun d _ => hcase d, Finset.sum_add_distrib, Finset.sum_ite_eq' Finset.univ c, if_pos (Finset.mem_univ c)]

end Cert.Value

end
-- ==== Proof.Value.Block.lean ====
/-
The kernel at the ideal values: a device's block of running sums, its total, and its result, read at one element.
-/
module

public import proofs.«01_k».proof.Proof.KernelIdeal.Launch
public import proofs.«01_k».proof.Proof.Value.Prefix
public import Idealize.ShloMosaic.Lib.MatmulPlain
public import Idealize.ShloMosaic.Lib.ValueLayout

@[expose] public section

noncomputable section

namespace Cert.Value

open Cert.KernelIdeal Cert.KernelIdeal.Gen Cert.KernelIdeal.Scan
open Idealize.ShloMosaic
open Idealize.ShloMosaic.TcCoe
open Idealize.ShloMosaic.ValueIdx
open scoped BigOperators

/-- The triangle's bit at row `r`, column `k`, widened: one where `k` is at most `r`. -/
theorem triangle_word (r k : Fin 256) :
    (IntOp.cmpi .sge (BitVec.ofNat 32 r.val) (BitVec.ofNat 32 k.val)).setWidth 32 = if k.val ≤ r.val then 1#32 else 0#32 := by
  have hr := r.isLt
  have hk := k.isLt
  have e : ∀ n : Fin 256, (BitVec.ofNat 32 n.val).toInt = (n.val : ℤ) := by decide +kernel
  have hs : IntOp.cmpi .sge (BitVec.ofNat 32 r.val) (BitVec.ofNat 32 k.val) = BitVec.ofBool (decide (k.val ≤ r.val)) := by
    show BitVec.ofBool ((BitVec.ofNat 32 k.val).sle (BitVec.ofNat 32 r.val)) = _
    rw [BitVec.sle_eq_decide, e, e]
    simp
  rw [hs]
  by_cases h : k.val ≤ r.val <;> simp [h]

/-- The triangle the kernel multiplies by: one on and below the diagonal, zero above it. -/
theorem triangle_at (r k : Fin 256) :
    (sitofp .f32 (extui 32 (cmpi .sge (iota .tc S256x256 32 [0] iota_S256x256_d0_w32) (iota .tc S256x256 32 [1] iota_S256x256_d1_w32)) natLt_1_32)
      : FVec Ideal S256x256 .f32) (ix2 r k) = if k.val ≤ r.val then 1 else 0 := by
  show ((((IntOp.cmpi .sge (BitVec.ofNat 32 (0 * 256 + r.val)) (BitVec.ofNat 32 (0 * 256 + k.val))).setWidth 32).toInt : ℝ) : EReal) = _
  rw [Nat.zero_mul, Nat.zero_add, Nat.zero_add, triangle_word]
  by_cases h : k.val ≤ r.val <;> simp [h]

/-- A device's running sums: at row `r` the sum of its block's rows up to `r`. -/
theorem running_at (v : Vec Ideal S256x256 .bf16) (r q : Fin 256) :
    k0_pay1 (F := Ideal) v (ix2 r q) = ∑ k : Fin 256, if k.val ≤ r.val then v (ix2 k q) else 0 := by
  unfold k0_pay1
  rw [shapeCast_self]
  refine (Ideal.matmul_plain_apply (M := 256) (K := 256) (N := 256) none _ _ _ r q).trans ?_
  rw [show (constant S256x256 .f32 0x00000000#32 : FVec Ideal S256x256 .f32) (ix2 r q) = 0 from Ideal.ofBits_zero_f32, zero_add]
  refine Finset.sum_congr rfl fun k _ => ?_
  rw [triangle_at]
  by_cases h : k.val ≤ r.val
  · rw [if_pos h, if_pos h, one_mul]; rfl
  · rw [if_neg h, if_neg h, zero_mul]

/-- A device's total: the sum of all its block's rows, its running sums' last row. -/
theorem total_at (v : Vec Ideal S256x256 .bf16) (u : Fin 1) (q : Fin 256) :
    k0_pay3 (F := Ideal) (k0_pay2 v) (ix2 u q) = ∑ k : Fin 256, v (ix2 k q) := by
  unfold k0_pay3 k0_pay2
  rw [shapeCast_self]
  refine (extractStridedSlice_apply ![255, 0] _ _ (ix2 u q) (ix2 (255 : Fin 256) q) fun a => ?_).trans ?_
  · have hu : u.val = 0 := by omega
    match a with
    | ⟨0, _⟩ => show 255 = 255 + u.val; omega
    | ⟨1, _⟩ => show q.val = 0 + q.val; omega
  · rw [running_at]
    exact Finset.sum_congr rfl fun k _ => if_pos (by have := k.isLt; show k.val ≤ 255; omega)

/-- A device's result: its running sums with the totals of the devices before it added. -/
theorem result_at (c : Dev nD) (G : Vec Ideal S16x1x256 .f32) (v : Vec Ideal S256x256 .f32) (r q : Fin 256) :
    k0_pay4 (F := Ideal) (ownWord c) G v (ix2 r q) = v (ix2 r q) + ∑ d : Fin 16, if d.val < c.val then G (ix3 d (0 : Fin 1) q) else 0 := by
  unfold k0_pay4
  dsimp only
  rw [shapeCast_self]
  refine congrArg (v (ix2 r q) + ·) ?_
  refine (broadcastTo_1b_ab_apply (a := 256) (b := 256) _ _ r q).trans ?_
  refine (Ideal.multiReduction_add_single _ _ _ _ _ _).trans ?_
  refine Finset.sum_congr rfl fun d _ => ?_
  rw [select_apply, mask_at]
  have hl : Shape.Reduces.lift reduces_S16x1x256_S1x256 (ix2 (0 : Fin 1) q) d = ix3 d (0 : Fin 1) q := by
    funext a
    match a with
    | ⟨0, _⟩ => rfl
    | ⟨1, _⟩ => rfl
    | ⟨2, _⟩ => rfl
  rw [hl]
  show Scalar.select (if d.val < c.val then 1#1 else 0#1) _ _ = _
  by_cases h : d.val < c.val
  · rw [if_pos h, if_pos h]; rfl
  · rw [if_neg h, if_neg h]; exact Ideal.ofBits_zero_f32

end Cert.Value

end
-- ==== Proof.Value.Result.lean ====
/-
The whole program at the ideal values: what each device's result array holds after a run, and that it is the device's block of the running sum.
-/
module

public import proofs.«01_k».proof.Proof.Value.Block

@[expose] public section

noncomputable section

namespace Cert.Value

open Cert.KernelIdeal Cert.KernelIdeal.Gen Cert.KernelIdeal.Scan
open Idealize.ShloMosaic
open Idealize.ShloMosaic.TcCoe
open Idealize.ShloMosaic.ValueIdx
open Idealize.SL.Sem
open scoped BigOperators

variable (m : (ℓ : Loc nD τ sig) → Buf (Elt Ideal) ℓ) (ρ : Dev nD → PrngReg)

/-- The argument's one block is the whole argument: the kernel stages the array as it stands. -/
theorem staged (c : Dev nD) : xstg m ρ c = m ((c : Thread nD τ).loc main_arg0) :=
  Memref.read_access_unit_zero (Elt Ideal) main_arg0 (funext fun a => by fin_cases a <;> decide) (fun a => by fin_cases a <;> decide) _

/-- The result's one block is the whole result: the array ends at what the kernel left staged. -/
theorem written (c : Dev nD) : finalA m ρ c (1 : Fin 2) = outAt m ρ c := by
  have hread : (win0_1.blk (0 : Fin 1)).view.read (Elt Ideal) (finalA m ρ c (1 : Fin 2)) = outAt m ρ c := by
    show (win0_1.blk (0 : Fin 1)).view.read (Elt Ideal) ((dats (F := Ideal) m ρ 0 c).arrAt (1 : Fin 2) (((0 : Fin 1) : Fin cfg0.N).val + 1)) = _
    rw [(dats (F := Ideal) m ρ 0 c).arrAt_succ (1 : Fin 2) (0 : Fin 1), if_pos (show (cfg0.win (1 : Fin 2)).flush (0 : Fin 1) = true by decide)]
    exact View.read_write_univ _ _
  exact (Memref.read_access_unit_zero (Elt Ideal) main_v1 (funext fun a => by fin_cases a <;> decide) (fun a => by fin_cases a <;> decide) _).symm.trans hread

/-- Row `k`, column `q` of block `d` of an array of 4096 rows is the array's row `256 d + k`. -/
theorem block_row (X : (⟨2, ![4096, 256]⟩ : Shape).Idx → EReal) (d : Fin 16) (k q : Fin 256) :
    Layout.block ⟨2, ![256, 256]⟩ ⟨2, ![4096, 256]⟩ 0 16 d X (by decide) (ix2 k q) = rowOr X q (d.val * 256 + k.val) := by
  have hd := d.isLt
  have hk := k.isLt
  unfold rowOr
  rw [dif_pos (by omega), Layout.block_apply]
  refine congrArg X (funext fun a => Fin.ext ?_)
  match a with
  | ⟨0, _⟩ => rfl
  | ⟨1, _⟩ => rfl

/-- Where every device's argument is its block of `X`, every device's result is its block of `X`'s running sum. -/
theorem result_block (X : (⟨2, ![4096, 256]⟩ : Shape).Idx → EReal)
    (hX : ∀ c : Dev nD, m ((c.tc : Thread nD τ).loc main_arg0) = Layout.block ⟨2, ![256, 256]⟩ ⟨2, ![4096, 256]⟩ 0 16 c X) (c : Dev nD) :
    finalA m ρ c (1 : Fin 2) = Layout.block ⟨2, ![256, 256]⟩ ⟨2, ![4096, 256]⟩ 0 16 c (prefixSum X) := by
  have hx : ∀ d : Dev nD, xstg m ρ d = Layout.block ⟨2, ![256, 256]⟩ ⟨2, ![4096, 256]⟩ 0 16 d X := fun d => (staged m ρ d).trans (hX d)
  rw [written]
  funext j
  obtain ⟨r, q, rfl⟩ : ∃ (r q : Fin 256), j = ix2 r q := ⟨j 0, j 1, eq_ix2 j⟩
  unfold outAt
  refine (result_at c _ _ r q).trans ?_
  have hr : k0_pay1 (F := Ideal) (xstg m ρ c) (ix2 r q) = ∑ k : Fin 256, if k.val ≤ r.val then rowOr X q (c.val * 256 + k.val) else 0 := by
    rw [running_at, hx]
    exact Finset.sum_congr rfl fun k _ => by rw [block_row]
  have ht : ∀ d : Fin 16, gath m ρ (ix3 d (0 : Fin 1) q) = ∑ k : Fin 256, rowOr X q (d.val * 256 + k.val) := by
    intro d
    refine (total_at (xstg m ρ d) (0 : Fin 1) q).trans ?_
    rw [hx]
    exact Finset.sum_congr rfl fun k _ => block_row X d k q
  simp only [ht]
  rw [hr, ← prefix_blocks (rowOr X q) c r.val r.isLt, Layout.block_apply]
  unfold prefixSum
  refine Finset.sum_congr rfl fun k _ => ?_
  unfold rowOr
  rw [dif_pos k.isLt]
  rfl

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value.Result
public import Idealize.ShloMosaic.Adequacy
public import Idealize.ShloMosaic.Init

@[expose] public section

noncomputable section

namespace Cert.Proof

open Idealize.ShloMosaic Idealize.ShloMosaic.TcCoe Idealize.SL.Sem

/-- `Cert.quiescent_Kernel`: every run of the kernel at bit patterns ends with its argument unchanged and every counter at zero. -/
theorem frame_p : Cert.quiescent_Kernel := by
  intro m ρ _
  exact (θ_run Cert.Kernel.defs _ _).mono (fun _ h => ⟨fun c => (h.1 c (0 : Fin 2)).trans (Cert.Kernel.Scan.finalA_x m ρ c), h.2⟩)
    (Cert.Kernel.Scan.run_main m ρ)

/-- `Cert.quiescent_KernelIdeal`: the same of the kernel at the ideal values. -/
theorem frame_pi : Cert.quiescent_KernelIdeal := by
  intro m ρ _
  exact (θ_run Cert.KernelIdeal.defs _ _).mono (fun _ h => ⟨fun c => (h.1 c (0 : Fin 2)).trans (Cert.KernelIdeal.Scan.finalA_x m ρ c), h.2⟩)
    (Cert.KernelIdeal.Scan.run_main m ρ)

/-- `Cert.quiescent_ReferenceIdeal`: the reference's run leaves its argument unchanged; it has no counter to leave. -/
theorem frame_ri : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run m ρ)

/-- `Cert.algebraic_KernelIdeal_ReferenceIdeal`: from a whole array cut by rows over the sixteen devices, the devices end with the blocks of its
    running sum down the rows, and the reference ends with that running sum. -/
theorem algebraic : Cert.algebraic_KernelIdeal_ReferenceIdeal := by
  intro m ρ m' ρ' _ hX
  refine ⟨Cert.Value.prefixSum (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun _ h c => ⟨(h.1 c (1 : Fin 2)).trans (Cert.Value.result_block m ρ _ hX c), (h.1 c (0 : Fin 2)).trans (Cert.KernelIdeal.Scan.finalA_x m ρ c)⟩)
      (Cert.KernelIdeal.Scan.run_main m ρ)
  · exact (θ_run Cert.ReferenceIdeal.defs _ _).mono
      (fun _ h => ⟨(h 0).1.trans (Cert.Value.reference_value _ _ _ _ _), (h 0).2⟩)
      (Cert.ReferenceIdeal.Value.run m' ρ')

/-- The certificate's claims, together. -/
theorem claim : Cert.Claim :=
  ⟨Cert.Kernel.Gen.facts, Cert.KernelIdeal.Gen.facts, Cert.ReferenceIdeal.Gen.facts, frame_p, frame_pi, frame_ri, trivial, algebraic⟩

end Cert.Proof

end
